-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S2048x64x1024 : Shape := ⟨3, ![2048, 64, 1024]⟩
abbrev S2048x64 : Shape := ⟨2, ![2048, 64]⟩
abbrev S1024x1024 : Shape := ⟨2, ![1024, 1024]⟩
abbrev S1024x2048 : Shape := ⟨2, ![1024, 2048]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S_ : Shape := ⟨0, ![]⟩
abbrev S64x2048 : Shape := ⟨2, ![64, 2048]⟩
abbrev S128x512 : Shape := ⟨2, ![128, 512]⟩
abbrev S64x1 : Shape := ⟨2, ![64, 1]⟩
abbrev S64 : Shape := ⟨1, ![64]⟩
abbrev S64x1x1024 : Shape := ⟨3, ![64, 1, 1024]⟩
abbrev S64x1x257 : Shape := ⟨3, ![64, 1, 257]⟩
abbrev S64x257 : Shape := ⟨2, ![64, 257]⟩
abbrev S64x512 : Shape := ⟨2, ![64, 512]⟩
abbrev S64x128 : Shape := ⟨2, ![64, 128]⟩
abbrev S8x1x1024 : Shape := ⟨3, ![8, 1, 1024]⟩
abbrev S8x1x257 : Shape := ⟨3, ![8, 1, 257]⟩
abbrev S24x257x1x1024 : Shape := ⟨4, ![24, 257, 1, 1024]⟩
abbrev S24 : Shape := ⟨1, ![24]⟩
abbrev S1x257x1x1024 : Shape := ⟨4, ![1, 257, 1, 1024]⟩
abbrev S257x1x1024 : Shape := ⟨3, ![257, 1, 1024]⟩
abbrev S257x1024 : Shape := ⟨2, ![257, 1024]⟩
abbrev S8x257 : Shape := ⟨2, ![8, 257]⟩
abbrev S1x257 : Shape := ⟨2, ![1, 257]⟩
abbrev S1x1x1024 : Shape := ⟨3, ![1, 1, 1024]⟩
abbrev S1x1024 : Shape := ⟨2, ![1, 1024]⟩
abbrev S8 : Shape := ⟨1, ![8]⟩
abbrev S8x1 : Shape := ⟨2, ![8, 1]⟩

abbrev nBuf : Space → Nat
  | .hbm => 39
  | .vmem => 23
  | .smem => 5
  | _ => 0

abbrev bufTy : (tb : Table) → Fin (tcTables nBuf tb) → BufTy
  | .hbm, ⟨0, _⟩ => ⟨S64x1024, .f32⟩
  | .hbm, ⟨1, _⟩ => ⟨S2048x64x1024, .f32⟩
  | .hbm, ⟨2, _⟩ => ⟨S2048x64, .i1⟩
  | .hbm, ⟨3, _⟩ => ⟨S1024x1024, .f32⟩
  | .hbm, ⟨4, _⟩ => ⟨S1024x2048, .f32⟩
  | .hbm, ⟨5, _⟩ => ⟨S512x1024, .f32⟩
  | .hbm, ⟨6, _⟩ => ⟨S512, .f32⟩
  | .hbm, ⟨7, _⟩ => ⟨S1x512, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S64x2048, .f32⟩
  | .hbm, ⟨16, _⟩ => ⟨S_, .f32⟩
  | .hbm, ⟨17, _⟩ => ⟨S128x512, .f32⟩
  | .hbm, ⟨18, _⟩ => ⟨S512, .f32⟩
  | .hbm, ⟨19, _⟩ => ⟨S_, .i32⟩
  | .hbm, ⟨20, _⟩ => ⟨S1, .i32⟩
  | .hbm, ⟨21, _⟩ => ⟨S128x512, .f32⟩
  | .hbm, ⟨22, _⟩ => ⟨S1x512, .f32⟩
  | .hbm, ⟨23, _⟩ => ⟨S64x1024, .f32⟩
  | .hbm, ⟨24, _⟩ => ⟨S64x1, .f32⟩
  | .hbm, ⟨25, _⟩ => ⟨S64x1, .f32⟩
  | .hbm, ⟨26, _⟩ => ⟨S64x1, .i32⟩
  | .hbm, ⟨27, _⟩ => ⟨S64x1, .i32⟩
  | .hbm, ⟨28, _⟩ => ⟨S64x1, .i32⟩
  | .hbm, ⟨29, _⟩ => ⟨S64, .i32⟩
  | .hbm, ⟨30, _⟩ => ⟨S64, .i32⟩
  | .hbm, ⟨31, _⟩ => ⟨S64, .f32⟩
  | .hbm, ⟨32, _⟩ => ⟨S64, .f32⟩
  | .hbm, ⟨33, _⟩ => ⟨S64x1x1024, .f32⟩
  | .hbm, ⟨34, _⟩ => ⟨S64x1x257, .f32⟩
  | .hbm, ⟨35, _⟩ => ⟨S64x1x1024, .f32⟩
  | .hbm, ⟨36, _⟩ => ⟨S64x257, .f32⟩
  | .hbm, ⟨37, _⟩ => ⟨S64x1024, .f32⟩
  | .hbm, ⟨38, _⟩ => ⟨S64x1024, .f32⟩
  | .local _ .vmem, ⟨0, _⟩ => ⟨S64x2048, .f32⟩
  | .local _ .vmem, ⟨1, _⟩ => ⟨S64x1024, .f32⟩
  | .local _ .vmem, ⟨2, _⟩ => ⟨S1024x1024, .f32⟩
  | .local _ .vmem, ⟨3, _⟩ => ⟨S512x1024, .f32⟩
  | .local _ .vmem, ⟨4, _⟩ => ⟨S1x512, .f32⟩
  | .local _ .vmem, ⟨5, _⟩ => ⟨S128x512, .f32⟩
  | .local _ .vmem, ⟨6, _⟩ => ⟨S64x1024, .f32⟩
  | .local _ .vmem, ⟨7, _⟩ => ⟨S64x1, .f32⟩
  | .local _ .vmem, ⟨8, _⟩ => ⟨S64x1, .f32⟩
  | .local _ .vmem, ⟨9, _⟩ => ⟨S64x1, .i32⟩
  | .local _ .vmem, ⟨10, _⟩ => ⟨S64x1, .i32⟩
  | .local _ .vmem, ⟨11, _⟩ => ⟨S64x1, .i32⟩
  | .local _ .vmem, ⟨12, _⟩ => ⟨S8x1x1024, .f32⟩
  | .local _ .vmem, ⟨13, _⟩ => ⟨S8x1x1024, .f32⟩
  | .local _ .vmem, ⟨14, _⟩ => ⟨S8x1x257, .f32⟩
  | .local _ .vmem, ⟨15, _⟩ => ⟨S8x1x257, .f32⟩
  | .local _ .vmem, ⟨16, _⟩ => ⟨S8x1x1024, .f32⟩
  | .local _ .vmem, ⟨17, _⟩ => ⟨S8x1x1024, .f32⟩
  | .local _ .vmem, ⟨18, _⟩ => ⟨S24x257x1x1024, .f32⟩
  | .local _ .vmem, ⟨19, _⟩ => ⟨S64x1024, .f32⟩
  | .local _ .vmem, ⟨20, _⟩ => ⟨S64x1024, .f32⟩
  | .local _ .vmem, ⟨21, _⟩ => ⟨S1024x2048, .f32⟩
  | .local _ .vmem, ⟨22, _⟩ => ⟨S64x1024, .f32⟩
  | .local _ .smem, ⟨0, _⟩ => ⟨S1, .f32⟩
  | .local _ .smem, ⟨1, _⟩ => ⟨S64, .i32⟩
  | .local _ .smem, ⟨2, _⟩ => ⟨S64, .i32⟩
  | .local _ .smem, ⟨3, _⟩ => ⟨S64, .f32⟩
  | .local _ .smem, ⟨4, _⟩ => ⟨S64, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_cst_0 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst_1 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8_0 : Ref sig .tc := ⟨.hbm, 23, rfl⟩
abbrev main_call0_v8_1 : Ref sig .tc := ⟨.hbm, 24, rfl⟩
abbrev main_call0_v8_2 : Ref sig .tc := ⟨.hbm, 25, rfl⟩
abbrev main_v0_2 : Ref sig .tc := ⟨.hbm, 26, rfl⟩
abbrev main_v0_3 : Ref sig .tc := ⟨.hbm, 27, rfl⟩
abbrev main_call0_v8_5 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14_0 : Ref sig .tc := ⟨.hbm, 34, rfl⟩
abbrev main_call0_v14_1 : Ref sig .tc := ⟨.hbm, 35, rfl⟩
abbrev main_v0_1 : Ref sig .tc := ⟨.hbm, 36, rfl⟩
abbrev main_call0_v16 : Ref sig .tc := ⟨.hbm, 37, rfl⟩
abbrev main_v0_0 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc0_stg6_0 : Ref sig .tc := ⟨.smem, 0, rfl⟩
abbrev cc1_stg0_0 : Ref sig .tc := ⟨.smem, 1, rfl⟩
abbrev cc1_stg1_0 : Ref sig .tc := ⟨.smem, 2, rfl⟩
abbrev cc1_stg2_0 : Ref sig .tc := ⟨.smem, 3, rfl⟩
abbrev cc1_stg3_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 47
abbrev cc2_sem1_0 : DmaSem sig := 48
abbrev cc2_sem2_0 : DmaSem sig := 49
abbrev cc2_sem3_0 : DmaSem sig := 50

abbrev nD : Nat := 1
abbrev τ : Topo := Topo.v7x

variable {F : FTy → Type} [FloatOps F]

abbrev grid0 : Pipeline.Grid := .none

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (v399 : BitVec 32) : Fin 3 → Nat :=
  let c0_i32_232 : BitVec 32 := 0#32
  let c0_i32_233 : BitVec 32 := 0#32
  ![v399.toNat, 0, 0]

def k1_chk1 (i : grid1.Coords) (v399 : BitVec 32) : Prop :=
  (∀ (k1_h1 : k1_cond1 i = 1#1), ∀ a, (k1_off1 v399) a + S257x1x1024.size a ≤ S2048x64x1024.size a)
theorem k1_off1_inb : ∀ (i : grid1.Coords) (v399 : BitVec 32) (k1_hw1 : k1_chk1 i v399), ∀ (k1_h1 : k1_cond1 i = 1#1), ∀ a, (k1_off1 v399) a + S257x1x1024.size a ≤ S2048x64x1024.size a := fun i v399 k1_hw1 k1_h1 => k1_hw1 k1_h1

def k1_off2 (v405 : BitVec 32) : Fin 3 → Nat :=
  let c1_i32_240 : BitVec 32 := 1#32
  let c0_i32_241 : BitVec 32 := 0#32
  ![v405.toNat, 1, 0]

def k1_chk2 (i : grid1.Coords) (v405 : BitVec 32) : Prop :=
  (∀ (k1_h1 : k1_cond1 i = 1#1), ∀ a, (k1_off2 v405) a + S257x1x1024.size a ≤ S2048x64x1024.size a)
theorem k1_off2_inb : ∀ (i : grid1.Coords) (v405 : BitVec 32) (k1_hw2 : k1_chk2 i v405), ∀ (k1_h1 : k1_cond1 i = 1#1), ∀ a, (k1_off2 v405) a + S257x1x1024.size a ≤ S2048x64x1024.size a := fun i v405 k1_hw2 k1_h1 => k1_hw2 k1_h1

def k1_off3 (v411 : BitVec 32) : Fin 3 → Nat :=
  let c2_i32_248 : BitVec 32 := 2#32
  let c0_i32_249 : BitVec 32 := 0#32
  ![v411.toNat, 2, 0]

def k1_chk3 (i : grid1.Coords) (v411 : BitVec 32) : Prop :=
  (∀ (k1_h1 : k1_cond1 i = 1#1), ∀ a, (k1_off3 v411) a + S257x1x1024.size a ≤ S2048x64x1024.size a)
theorem k1_off3_inb : ∀ (i : grid1.Coords) (v411 : BitVec 32) (k1_hw3 : k1_chk3 i v411), ∀ (k1_h1 : k1_cond1 i = 1#1), ∀ a, (k1_off3 v411) a + S257x1x1024.size a ≤ S2048x64x1024.size a := fun i v411 k1_hw3 k1_h1 => k1_hw3 k1_h1

def k1_off4 (v417 : BitVec 32) : Fin 3 → Nat :=
  let c3_i32_256 : BitVec 32 := 3#32
  let c0_i32_257 : BitVec 32 := 0#32
  ![v417.toNat, 3, 0]

def k1_chk4 (i : grid1.Coords) (v417 : BitVec 32) : Prop :=
  (∀ (k1_h1 : k1_cond1 i = 1#1), ∀ a, (k1_off4 v417) a + S257x1x1024.size a ≤ S2048x64x1024.size a)
theorem k1_off4_inb : ∀ (i : grid1.Coords) (v417 : BitVec 32) (k1_hw4 : k1_chk4 i v417), ∀ (k1_h1 : k1_cond1 i = 1#1), ∀ a, (k1_off4 v417) a + S257x1x1024.size a ≤ S2048x64x1024.size a := fun i v417 k1_hw4 k1_h1 => k1_hw4 k1_h1

def k1_off5 (v423 : BitVec 32) : Fin 3 → Nat :=
  let c4_i32_264 : BitVec 32 := 4#32
  let c0_i32_265 : BitVec 32 := 0#32
  ![v423.toNat, 4, 0]

def k1_chk5 (i : grid1.Coords) (v423 : BitVec 32) : Prop :=
  (∀ (k1_h1 : k1_cond1 i = 1#1), ∀ a, (k1_off5 v423) a + S257x1x1024.size a ≤ S2048x64x1024.size a)
theorem k1_off5_inb : ∀ (i : grid1.Coords) (v423 : BitVec 32) (k1_hw5 : k1_chk5 i v423), ∀ (k1_h1 : k1_cond1 i = 1#1), ∀ a, (k1_off5 v423) a + S257x1x1024.size a ≤ S2048x64x1024.size a := fun i v423 k1_hw5 k1_h1 => k1_hw5 k1_h1

def k1_off6 (v429 : BitVec 32) : Fin 3 → Nat :=
  let c5_i32_272 : BitVec 32 := 5#32
  let c0_i32_273 : BitVec 32 := 0#32
  ![v429.toNat, 5, 0]

def k1_chk6 (i : grid1.Coords) (v429 : BitVec 32) : Prop :=
  (∀ (k1_h1 : k1_cond1 i = 1#1), ∀ a, (k1_off6 v429) a + S257x1x1024.size a ≤ S2048x64x1024.size a)
theorem k1_off6_inb : ∀ (i : grid1.Coords) (v429 : BitVec 32) (k1_hw6 : k1_chk6 i v429), ∀ (k1_h1 : k1_cond1 i = 1#1), ∀ a, (k1_off6 v429) a + S257x1x1024.size a ≤ S2048x64x1024.size a := fun i v429 k1_hw6 k1_h1 => k1_hw6 k1_h1

def k1_off7 (v435 : BitVec 32) : Fin 3 → Nat :=
  let c6_i32_280 : BitVec 32 := 6#32
  let c0_i32_281 : BitVec 32 := 0#32
  ![v435.toNat, 6, 0]

def k1_chk7 (i : grid1.Coords) (v435 : BitVec 32) : Prop :=
  (∀ (k1_h1 : k1_cond1 i = 1#1), ∀ a, (k1_off7 v435) a + S257x1x1024.size a ≤ S2048x64x1024.size a)
theorem k1_off7_inb : ∀ (i : grid1.Coords) (v435 : BitVec 32) (k1_hw7 : k1_chk7 i v435), ∀ (k1_h1 : k1_cond1 i = 1#1), ∀ a, (k1_off7 v435) a + S257x1x1024.size a ≤ S2048x64x1024.size a := fun i v435 k1_hw7 k1_h1 => k1_hw7 k1_h1

def k1_off8 (v441 : BitVec 32) : Fin 3 → Nat :=
  let c7_i32_288 : BitVec 32 := 7#32
  let c0_i32_289 : BitVec 32 := 0#32
  ![v441.toNat, 7, 0]

def k1_chk8 (i : grid1.Coords) (v441 : BitVec 32) : Prop :=
  (∀ (k1_h1 : k1_cond1 i = 1#1), ∀ a, (k1_off8 v441) a + S257x1x1024.size a ≤ S2048x64x1024.size a)
theorem k1_off8_inb : ∀ (i : grid1.Coords) (v441 : BitVec 32) (k1_hw8 : k1_chk8 i v441), ∀ (k1_h1 : k1_cond1 i = 1#1), ∀ a, (k1_off8 v441) a + S257x1x1024.size a ≤ S2048x64x1024.size a := fun i v441 k1_hw8 k1_h1 => k1_hw8 k1_h1

def k1_off9 (v447 : BitVec 32) : Fin 3 → Nat :=
  let c8_i32_295 : BitVec 32 := 8#32
  let c0_i32_296 : BitVec 32 := 0#32
  ![v447.toNat, 8, 0]

def k1_chk9 (i : grid1.Coords) (v447 : BitVec 32) : Prop :=
  (∀ (k1_h1 : k1_cond1 i = 1#1), ∀ a, (k1_off9 v447) a + S257x1x1024.size a ≤ S2048x64x1024.size a)
theorem k1_off9_inb : ∀ (i : grid1.Coords) (v447 : BitVec 32) (k1_hw9 : k1_chk9 i v447), ∀ (k1_h1 : k1_cond1 i = 1#1), ∀ a, (k1_off9 v447) a + S257x1x1024.size a ≤ S2048x64x1024.size a := fun i v447 k1_hw9 k1_h1 => k1_hw9 k1_h1

def k1_off10 (v453 : BitVec 32) : Fin 3 → Nat :=
  let c9_i32_301 : BitVec 32 := 9#32
  let c0_i32_302 : BitVec 32 := 0#32
  ![v453.toNat, 9, 0]

def k1_chk10 (i : grid1.Coords) (v453 : BitVec 32) : Prop :=
  (∀ (k1_h1 : k1_cond1 i = 1#1), ∀ a, (k1_off10 v453) a + S257x1x1024.size a ≤ S2048x64x1024.size a)
theorem k1_off10_inb : ∀ (i : grid1.Coords) (v453 : BitVec 32) (k1_hw10 : k1_chk10 i v453), ∀ (k1_h1 : k1_cond1 i = 1#1), ∀ a, (k1_off10 v453) a + S257x1x1024.size a ≤ S2048x64x1024.size a := fun i v453 k1_hw10 k1_h1 => k1_hw10 k1_h1

def k1_off11 (v459 : BitVec 32) : Fin 3 → Nat :=
  let c10_i32_307 : BitVec 32 := 10#32
  let c0_i32_308 : BitVec 32 := 0#32
  ![v459.toNat, 10, 0]

def k1_chk11 (i : grid1.Coords) (v459 : BitVec 32) : Prop :=
  (∀ (k1_h1 : k1_cond1 i = 1#1), ∀ a, (k1_off11 v459) a + S257x1x1024.size a ≤ S2048x64x1024.size a)
theorem k1_off11_inb : ∀ (i : grid1.Coords) (v459 : BitVec 32) (k1_hw11 : k1_chk11 i v459), ∀ (k1_h1 : k1_cond1 i = 1#1), ∀ a, (k1_off11 v459) a + S257x1x1024.size a ≤ S2048x64x1024.size a := fun i v459 k1_hw11 k1_h1 => k1_hw11 k1_h1

def k1_off12 (v465 : BitVec 32) : Fin 3 → Nat :=
  let c11_i32_313 : BitVec 32 := 11#32
  let c0_i32_314 : BitVec 32 := 0#32
  ![v465.toNat, 11, 0]

def k1_chk12 (i : grid1.Coords) (v465 : BitVec 32) : Prop :=
  (∀ (k1_h1 : k1_cond1 i = 1#1), ∀ a, (k1_off12 v465) a + S257x1x1024.size a ≤ S2048x64x1024.size a)
theorem k1_off12_inb : ∀ (i : grid1.Coords) (v465 : BitVec 32) (k1_hw12 : k1_chk12 i v465), ∀ (k1_h1 : k1_cond1 i = 1#1), ∀ a, (k1_off12 v465) a + S257x1x1024.size a ≤ S2048x64x1024.size a := fun i v465 k1_hw12 k1_h1 => k1_hw12 k1_h1

def k1_off13 (v471 : BitVec 32) : Fin 3 → Nat :=
  let c12_i32_319 : BitVec 32 := 12#32
  let c0_i32_320 : BitVec 32 := 0#32
  ![v471.toNat, 12, 0]

def k1_chk13 (i : grid1.Coords) (v471 : BitVec 32) : Prop :=
  (∀ (k1_h1 : k1_cond1 i = 1#1), ∀ a, (k1_off13 v471) a + S257x1x1024.size a ≤ S2048x64x1024.size a)
theorem k1_off13_inb : ∀ (i : grid1.Coords) (v471 : BitVec 32) (k1_hw13 : k1_chk13 i v471), ∀ (k1_h1 : k1_cond1 i = 1#1), ∀ a, (k1_off13 v471) a + S257x1x1024.size a ≤ S2048x64x1024.size a := fun i v471 k1_hw13 k1_h1 => k1_hw13 k1_h1

def k1_off14 (v477 : BitVec 32) : Fin 3 → Nat :=
  let c13_i32_325 : BitVec 32 := 13#32
  let c0_i32_326 : BitVec 32 := 0#32
  ![v477.toNat, 13, 0]

def k1_chk14 (i : grid1.Coords) (v477 : BitVec 32) : Prop :=
  (∀ (k1_h1 : k1_cond1 i = 1#1), ∀ a, (k1_off14 v477) a + S257x1x1024.size a ≤ S2048x64x1024.size a)
theorem k1_off14_inb : ∀ (i : grid1.Coords) (v477 : BitVec 32) (k1_hw14 : k1_chk14 i v477), ∀ (k1_h1 : k1_cond1 i = 1#1), ∀ a, (k1_off14 v477) a + S257x1x1024.size a ≤ S2048x64x1024.size a := fun i v477 k1_hw14 k1_h1 => k1_hw14 k1_h1

def k1_off15 (v483 : BitVec 32) : Fin 3 → Nat :=
  let c14_i32_331 : BitVec 32 := 14#32
  let c0_i32_332 : BitVec 32 := 0#32
  ![v483.toNat, 14, 0]

def k1_chk15 (i : grid1.Coords) (v483 : BitVec 32) : Prop :=
  (∀ (k1_h1 : k1_cond1 i = 1#1), ∀ a, (k1_off15 v483) a + S257x1x1024.size a ≤ S2048x64x1024.size a)
theorem k1_off15_inb : ∀ (i : grid1.Coords) (v483 : BitVec 32) (k1_hw15 : k1_chk15 i v483), ∀ (k1_h1 : k1_cond1 i = 1#1), ∀ a, (k1_off15 v483) a + S257x1x1024.size a ≤ S2048x64x1024.size a := fun i v483 k1_hw15 k1_h1 => k1_hw15 k1_h1

def k1_off16 (v489 : BitVec 32) : Fin 3 → Nat :=
  let c15_i32_337 : BitVec 32 := 15#32
  let c0_i32_338 : BitVec 32 := 0#32
  ![v489.toNat, 15, 0]

def k1_chk16 (i : grid1.Coords) (v489 : BitVec 32) : Prop :=
  (∀ (k1_h1 : k1_cond1 i = 1#1), ∀ a, (k1_off16 v489) a + S257x1x1024.size a ≤ S2048x64x1024.size a)
theorem k1_off16_inb : ∀ (i : grid1.Coords) (v489 : BitVec 32) (k1_hw16 : k1_chk16 i v489), ∀ (k1_h1 : k1_cond1 i = 1#1), ∀ a, (k1_off16 v489) a + S257x1x1024.size a ≤ S2048x64x1024.size a := fun i v489 k1_hw16 k1_h1 => k1_hw16 k1_h1

def k1_cond2 (i : grid1.Coords) : BitVec 1 :=
  let arg0 : BitVec 32 := BitVec.ofNat 32 (i 0).val
  let c8_i32 : BitVec 32 := 8#32
  let v3 : BitVec 32 := Scalar.muli arg0 c8_i32
  let c16_i32 : BitVec 32 := 16#32
  let v4 : BitVec 32 := Scalar.addi v3 c16_i32
  let c0_i32_1 : BitVec 32 := 0#32
  let v5 : BitVec 32 := Scalar.addi v4 c0_i32_1
  let c64_i32 : BitVec 32 := 64#32
  let v6 : BitVec 1 := Scalar.cmpi .slt v5 c64_i32
  let v7 : BitVec 32 := Scalar.extui v6
  let c0_i32_2 : BitVec 32 := 0#32
  let v8 : BitVec 1 := Scalar.cmpi .ne v7 c0_i32_2
  v8

def k1_off17 (i : grid1.Coords) : Fin 1 → Nat :=
  let arg0 : BitVec 32 := BitVec.ofNat 32 (i 0).val
  let c8_i32 : BitVec 32 := 8#32
  let v3 : BitVec 32 := Scalar.muli arg0 c8_i32
  let c16_i32 : BitVec 32 := 16#32
  let v4 : BitVec 32 := Scalar.addi v3 c16_i32
  let c0_i32_1 : BitVec 32 := 0#32
  let v5 : BitVec 32 := Scalar.addi v4 c0_i32_1
  let v400 : Index := Scalar.indexCast v5
  ![v400.toNat]
def k1_off18 (i : grid1.Coords) : Fin 1 → Nat :=
  let arg0 : BitVec 32 := BitVec.ofNat 32 (i 0).val
  let c8_i32 : BitVec 32 := 8#32
  let v3 : BitVec 32 := Scalar.muli arg0 c8_i32
  let c16_i32 : BitVec 32 := 16#32
  let v4 : BitVec 32 := Scalar.addi v3 c16_i32
  let c0_i32_1 : BitVec 32 := 0#32
  let v5 : BitVec 32 := Scalar.addi v4 c0_i32_1
  let c24_i32_226 : BitVec 32 := 24#32
  let v399 : BitVec 32 := Scalar.remsi v5 c24_i32_226
  ![v399.toNat]
def k1_off19 (i : grid1.Coords) : Fin 4 → Nat :=
  let arg0 : BitVec 32 := BitVec.ofNat 32 (i 0).val
  let c8_i32 : BitVec 32 := 8#32
  let v3 : BitVec 32 := Scalar.muli arg0 c8_i32
  let c16_i32 : BitVec 32 := 16#32
  let v4 : BitVec 32 := Scalar.addi v3 c16_i32
  let c0_i32_1 : BitVec 32 := 0#32
  let v5 : BitVec 32 := Scalar.addi v4 c0_i32_1
  let c24_i32_226 : BitVec 32 := 24#32
  let v399 : BitVec 32 := Scalar.remsi v5 c24_i32_226
  let c0_i32_227 : BitVec 32 := 0#32
  let c0_i32_228 : BitVec 32 := 0#32
  let c0_i32_229 : BitVec 32 := 0#32
  ![v399.toNat, 0, 0, 0]
def k1_off20 (i : grid1.Coords) (v401 : BitVec 32) : Fin 3 → Nat :=
  let arg0 : BitVec 32 := BitVec.ofNat 32 (i 0).val
  let c8_i32 : BitVec 32 := 8#32
  let v3 : BitVec 32 := Scalar.muli arg0 c8_i32
  let c16_i32 : BitVec 32 := 16#32
  let v4 : BitVec 32 := Scalar.addi v3 c16_i32
  let c0_i32_1 : BitVec 32 := 0#32
  let v5 : BitVec 32 := Scalar.addi v4 c0_i32_1
  let c0_i32_230 : BitVec 32 := 0#32
  ![v401.toNat, v5.toNat, 0]

def k1_chk17 (i : grid1.Coords) (v401 : BitVec 32) : Prop :=
  (∀ (k1_h2 : k1_cond2 i = 1#1), ∀ a, (k1_off20 i v401) a + S257x1x1024.size a ≤ S2048x64x1024.size a)
theorem k1_off20_inb : ∀ (i : grid1.Coords) (v401 : BitVec 32) (k1_hw17 : k1_chk17 i v401), ∀ (k1_h2 : k1_cond2 i = 1#1), ∀ a, (k1_off20 i v401) a + S257x1x1024.size a ≤ S2048x64x1024.size a := fun i v401 k1_hw17 k1_h2 => k1_hw17 k1_h2

def k1_cond3 (i : grid1.Coords) : BitVec 1 :=
  let arg0 : BitVec 32 := BitVec.ofNat 32 (i 0).val
  let c8_i32_3 : BitVec 32 := 8#32
  let v9 : BitVec 32 := Scalar.muli arg0 c8_i32_3
  let c16_i32_4 : BitVec 32 := 16#32
  let v10 : BitVec 32 := Scalar.addi v9 c16_i32_4
  let c1_i32 : BitVec 32 := 1#32
  let v11 : BitVec 32 := Scalar.addi v10 c1_i32
  let c64_i32_5 : BitVec 32 := 64#32
  let v12 : BitVec 1 := Scalar.cmpi .slt v11 c64_i32_5
  let v13 : BitVec 32 := Scalar.extui v12
  let c0_i32_6 : BitVec 32 := 0#32
  let v14 : BitVec 1 := Scalar.cmpi .ne v13 c0_i32_6
  v14

def k1_off21 (i : grid1.Coords) : Fin 1 → Nat :=
  let arg0 : BitVec 32 := BitVec.ofNat 32 (i 0).val
  let c8_i32_3 : BitVec 32 := 8#32
  let v9 : BitVec 32 := Scalar.muli arg0 c8_i32_3
  let c16_i32_4 : BitVec 32 := 16#32
  let v10 : BitVec 32 := Scalar.addi v9 c16_i32_4
  let c1_i32 : BitVec 32 := 1#32
  let v11 : BitVec 32 := Scalar.addi v10 c1_i32
  let v400 : Index := Scalar.indexCast v11
  ![v400.toNat]
def k1_off22 (i : grid1.Coords) : Fin 1 → Nat :=
  let arg0 : BitVec 32 := BitVec.ofNat 32 (i 0).val
  let c8_i32_3 : BitVec 32 := 8#32
  let v9 : BitVec 32 := Scalar.muli arg0 c8_i32_3
  let c16_i32_4 : BitVec 32 := 16#32
  let v10 : BitVec 32 := Scalar.addi v9 c16_i32_4
  let c1_i32 : BitVec 32 := 1#32
  let v11 : BitVec 32 := Scalar.addi v10 c1_i32
  let c24_i32_226 : BitVec 32 := 24#32
  let v399 : BitVec 32 := Scalar.remsi v11 c24_i32_226
  ![v399.toNat]
def k1_off23 (i : grid1.Coords) : Fin 4 → Nat :=
  let arg0 : BitVec 32 := BitVec.ofNat 32 (i 0).val
  let c8_i32_3 : BitVec 32 := 8#32
  let v9 : BitVec 32 := Scalar.muli arg0 c8_i32_3
  let c16_i32_4 : BitVec 32 := 16#32
  let v10 : BitVec 32 := Scalar.addi v9 c16_i32_4
  let c1_i32 : BitVec 32 := 1#32
  let v11 : BitVec 32 := Scalar.addi v10 c1_i32
  let c24_i32_226 : BitVec 32 := 24#32
  let v399 : BitVec 32 := Scalar.remsi v11 c24_i32_226
  let c0_i32_227 : BitVec 32 := 0#32
  let c0_i32_228 : BitVec 32 := 0#32
  let c0_i32_229 : BitVec 32 := 0#32
  ![v399.toNat, 0, 0, 0]
def k1_off24 (i : grid1.Coords) (v401 : BitVec 32) : Fin 3 → Nat :=
  let arg0 : BitVec 32 := BitVec.ofNat 32 (i 0).val
  let c8_i32_3 : BitVec 32 := 8#32
  let v9 : BitVec 32 := Scalar.muli arg0 c8_i32_3
  let c16_i32_4 : BitVec 32 := 16#32
  let v10 : BitVec 32 := Scalar.addi v9 c16_i32_4
  let c1_i32 : BitVec 32 := 1#32
  let v11 : BitVec 32 := Scalar.addi v10 c1_i32
  let c0_i32_230 : BitVec 32 := 0#32
  ![v401.toNat, v11.toNat, 0]

def k1_chk18 (i : grid1.Coords) (v401 : BitVec 32) : Prop :=
  (∀ (k1_h3 : k1_cond3 i = 1#1), ∀ a, (k1_off24 i v401) a + S257x1x1024.size a ≤ S2048x64x1024.size a)
theorem k1_off24_inb : ∀ (i : grid1.Coords) (v401 : BitVec 32) (k1_hw18 : k1_chk18 i v401), ∀ (k1_h3 : k1_cond3 i = 1#1), ∀ a, (k1_off24 i v401) a + S257x1x1024.size a ≤ S2048x64x1024.size a := fun i v401 k1_hw18 k1_h3 => k1_hw18 k1_h3

def k1_cond4 (i : grid1.Coords) : BitVec 1 :=
  let arg0 : BitVec 32 := BitVec.ofNat 32 (i 0).val
  let c8_i32_7 : BitVec 32 := 8#32
  let v15 : BitVec 32 := Scalar.muli arg0 c8_i32_7
  let c16_i32_8 : BitVec 32 := 16#32
  let v16 : BitVec 32 := Scalar.addi v15 c16_i32_8
  let c2_i32 : BitVec 32 := 2#32
  let v17 : BitVec 32 := Scalar.addi v16 c2_i32
  let c64_i32_9 : BitVec 32 := 64#32
  let v18 : BitVec 1 := Scalar.cmpi .slt v17 c64_i32_9
  let v19 : BitVec 32 := Scalar.extui v18
  let c0_i32_10 : BitVec 32 := 0#32
  let v20 : BitVec 1 := Scalar.cmpi .ne v19 c0_i32_10
  v20

def k1_off25 (i : grid1.Coords) : Fin 1 → Nat :=
  let arg0 : BitVec 32 := BitVec.ofNat 32 (i 0).val
  let c8_i32_7 : BitVec 32 := 8#32
  let v15 : BitVec 32 := Scalar.muli arg0 c8_i32_7
  let c16_i32_8 : BitVec 32 := 16#32
  let v16 : BitVec 32 := Scalar.addi v15 c16_i32_8
  let c2_i32 : BitVec 32 := 2#32
  let v17 : BitVec 32 := Scalar.addi v16 c2_i32
  let v400 : Index := Scalar.indexCast v17
  ![v400.toNat]
def k1_off26 (i : grid1.Coords) : Fin 1 → Nat :=
  let arg0 : BitVec 32 := BitVec.ofNat 32 (i 0).val
  let c8_i32_7 : BitVec 32 := 8#32
  let v15 : BitVec 32 := Scalar.muli arg0 c8_i32_7
  let c16_i32_8 : BitVec 32 := 16#32
  let v16 : BitVec 32 := Scalar.addi v15 c16_i32_8
  let c2_i32 : BitVec 32 := 2#32
  let v17 : BitVec 32 := Scalar.addi v16 c2_i32
  let c24_i32_226 : BitVec 32 := 24#32
  let v399 : BitVec 32 := Scalar.remsi v17 c24_i32_226
  ![v399.toNat]
def k1_off27 (i : grid1.Coords) : Fin 4 → Nat :=
  let arg0 : BitVec 32 := BitVec.ofNat 32 (i 0).val
  let c8_i32_7 : BitVec 32 := 8#32
  let v15 : BitVec 32 := Scalar.muli arg0 c8_i32_7
  let c16_i32_8 : BitVec 32 := 16#32
  let v16 : BitVec 32 := Scalar.addi v15 c16_i32_8
  let c2_i32 : BitVec 32 := 2#32
  let v17 : BitVec 32 := Scalar.addi v16 c2_i32
  let c24_i32_226 : BitVec 32 := 24#32
  let v399 : BitVec 32 := Scalar.remsi v17 c24_i32_226
  let c0_i32_227 : BitVec 32 := 0#32
  let c0_i32_228 : BitVec 32 := 0#32
  let c0_i32_229 : BitVec 32 := 0#32
  ![v399.toNat, 0, 0, 0]
def k1_off28 (i : grid1.Coords) (v401 : BitVec 32) : Fin 3 → Nat :=
  let arg0 : BitVec 32 := BitVec.ofNat 32 (i 0).val
  let c8_i32_7 : BitVec 32 := 8#32
  let v15 : BitVec 32 := Scalar.muli arg0 c8_i32_7
  let c16_i32_8 : BitVec 32 := 16#32
  let v16 : BitVec 32 := Scalar.addi v15 c16_i32_8
  let c2_i32 : BitVec 32 := 2#32
  let v17 : BitVec 32 := Scalar.addi v16 c2_i32
  let c0_i32_230 : BitVec 32 := 0#32
  ![v401.toNat, v17.toNat, 0]

def k1_chk19 (i : grid1.Coords) (v401 : BitVec 32) : Prop :=
  (∀ (k1_h4 : k1_cond4 i = 1#1), ∀ a, (k1_off28 i v401) a + S257x1x1024.size a ≤ S2048x64x1024.size a)
theorem k1_off28_inb : ∀ (i : grid1.Coords) (v401 : BitVec 32) (k1_hw19 : k1_chk19 i v401), ∀ (k1_h4 : k1_cond4 i = 1#1), ∀ a, (k1_off28 i v401) a + S257x1x1024.size a ≤ S2048x64x1024.size a := fun i v401 k1_hw19 k1_h4 => k1_hw19 k1_h4

def k1_cond5 (i : grid1.Coords) : BitVec 1 :=
  let arg0 : BitVec 32 := BitVec.ofNat 32 (i 0).val
  let c8_i32_11 : BitVec 32 := 8#32
  let v21 : BitVec 32 := Scalar.muli arg0 c8_i32_11
  let c16_i32_12 : BitVec 32 := 16#32
  let v22 : BitVec 32 := Scalar.addi v21 c16_i32_12
  let c3_i32 : BitVec 32 := 3#32
  let v23 : BitVec 32 := Scalar.addi v22 c3_i32
  let c64_i32_13 : BitVec 32 := 64#32
  let v24 : BitVec 1 := Scalar.cmpi .slt v23 c64_i32_13
  let v25 : BitVec 32 := Scalar.extui v24
  let c0_i32_14 : BitVec 32 := 0#32
  let v26 : BitVec 1 := Scalar.cmpi .ne v25 c0_i32_14
  v26

def k1_off29 (i : grid1.Coords) : Fin 1 → Nat :=
  let arg0 : BitVec 32 := BitVec.ofNat 32 (i 0).val
  let c8_i32_11 : BitVec 32 := 8#32
  let v21 : BitVec 32 := Scalar.muli arg0 c8_i32_11
  let c16_i32_12 : BitVec 32 := 16#32
  let v22 : BitVec 32 := Scalar.addi v21 c16_i32_12
  let c3_i32 : BitVec 32 := 3#32
  let v23 : BitVec 32 := Scalar.addi v22 c3_i32
  let v400 : Index := Scalar.indexCast v23
  ![v400.toNat]
def k1_off30 (i : grid1.Coords) : Fin 1 → Nat :=
  let arg0 : BitVec 32 := BitVec.ofNat 32 (i 0).val
  let c8_i32_11 : BitVec 32 := 8#32
  let v21 : BitVec 32 := Scalar.muli arg0 c8_i32_11
  let c16_i32_12 : BitVec 32 := 16#32
  let v22 : BitVec 32 := Scalar.addi v21 c16_i32_12
  let c3_i32 : BitVec 32 := 3#32
  let v23 : BitVec 32 := Scalar.addi v22 c3_i32
  let c24_i32_226 : BitVec 32 := 24#32
  let v399 : BitVec 32 := Scalar.remsi v23 c24_i32_226
  ![v399.toNat]
def k1_off31 (i : grid1.Coords) : Fin 4 → Nat :=
  let arg0 : BitVec 32 := BitVec.ofNat 32 (i 0).val
  let c8_i32_11 : BitVec 32 := 8#32
  let v21 : BitVec 32 := Scalar.muli arg0 c8_i32_11
  let c16_i32_12 : BitVec 32 := 16#32
  let v22 : BitVec 32 := Scalar.addi v21 c16_i32_12
  let c3_i32 : BitVec 32 := 3#32
  let v23 : BitVec 32 := Scalar.addi v22 c3_i32
  let c24_i32_226 : BitVec 32 := 24#32
  let v399 : BitVec 32 := Scalar.remsi v23 c24_i32_226
  let c0_i32_227 : BitVec 32 := 0#32
  let c0_i32_228 : BitVec 32 := 0#32
  let c0_i32_229 : BitVec 32 := 0#32
  ![v399.toNat, 0, 0, 0]
def k1_off32 (i : grid1.Coords) (v401 : BitVec 32) : Fin 3 → Nat :=
  let arg0 : BitVec 32 := BitVec.ofNat 32 (i 0).val
  let c8_i32_11 : BitVec 32 := 8#32
  let v21 : BitVec 32 := Scalar.muli arg0 c8_i32_11
  let c16_i32_12 : BitVec 32 := 16#32
  let v22 : BitVec 32 := Scalar.addi v21 c16_i32_12
  let c3_i32 : BitVec 32 := 3#32
  let v23 : BitVec 32 := Scalar.addi v22 c3_i32
  let c0_i32_230 : BitVec 32 := 0#32
  ![v401.toNat, v23.toNat, 0]

def k1_chk20 (i : grid1.Coords) (v401 : BitVec 32) : Prop :=
  (∀ (k1_h5 : k1_cond5 i = 1#1), ∀ a, (k1_off32 i v401) a + S257x1x1024.size a ≤ S2048x64x1024.size a)
theorem k1_off32_inb : ∀ (i : grid1.Coords) (v401 : BitVec 32) (k1_hw20 : k1_chk20 i v401), ∀ (k1_h5 : k1_cond5 i = 1#1), ∀ a, (k1_off32 i v401) a + S257x1x1024.size a ≤ S2048x64x1024.size a := fun i v401 k1_hw20 k1_h5 => k1_hw20 k1_h5

def k1_cond6 (i : grid1.Coords) : BitVec 1 :=
  let arg0 : BitVec 32 := BitVec.ofNat 32 (i 0).val
  let c8_i32_15 : BitVec 32 := 8#32
  let v27 : BitVec 32 := Scalar.muli arg0 c8_i32_15
  let c16_i32_16 : BitVec 32 := 16#32
  let v28 : BitVec 32 := Scalar.addi v27 c16_i32_16
  let c4_i32 : BitVec 32 := 4#32
  let v29 : BitVec 32 := Scalar.addi v28 c4_i32
  let c64_i32_17 : BitVec 32 := 64#32
  let v30 : BitVec 1 := Scalar.cmpi .slt v29 c64_i32_17
  let v31 : BitVec 32 := Scalar.extui v30
  let c0_i32_18 : BitVec 32 := 0#32
  let v32 : BitVec 1 := Scalar.cmpi .ne v31 c0_i32_18
  v32

def k1_off33 (i : grid1.Coords) : Fin 1 → Nat :=
  let arg0 : BitVec 32 := BitVec.ofNat 32 (i 0).val
  let c8_i32_15 : BitVec 32 := 8#32
  let v27 : BitVec 32 := Scalar.muli arg0 c8_i32_15
  let c16_i32_16 : BitVec 32 := 16#32
  let v28 : BitVec 32 := Scalar.addi v27 c16_i32_16
  let c4_i32 : BitVec 32 := 4#32
  let v29 : BitVec 32 := Scalar.addi v28 c4_i32
  let v400 : Index := Scalar.indexCast v29
  ![v400.toNat]
def k1_off34 (i : grid1.Coords) : Fin 1 → Nat :=
  let arg0 : BitVec 32 := BitVec.ofNat 32 (i 0).val
  let c8_i32_15 : BitVec 32 := 8#32
  let v27 : BitVec 32 := Scalar.muli arg0 c8_i32_15
  let c16_i32_16 : BitVec 32 := 16#32
  let v28 : BitVec 32 := Scalar.addi v27 c16_i32_16
  let c4_i32 : BitVec 32 := 4#32
  let v29 : BitVec 32 := Scalar.addi v28 c4_i32
  let c24_i32_226 : BitVec 32 := 24#32
  let v399 : BitVec 32 := Scalar.remsi v29 c24_i32_226
  ![v399.toNat]
def k1_off35 (i : grid1.Coords) : Fin 4 → Nat :=
  let arg0 : BitVec 32 := BitVec.ofNat 32 (i 0).val
  let c8_i32_15 : BitVec 32 := 8#32
  let v27 : BitVec 32 := Scalar.muli arg0 c8_i32_15
  let c16_i32_16 : BitVec 32 := 16#32
  let v28 : BitVec 32 := Scalar.addi v27 c16_i32_16
  let c4_i32 : BitVec 32 := 4#32
  let v29 : BitVec 32 := Scalar.addi v28 c4_i32
  let c24_i32_226 : BitVec 32 := 24#32
  let v399 : BitVec 32 := Scalar.remsi v29 c24_i32_226
  let c0_i32_227 : BitVec 32 := 0#32
  let c0_i32_228 : BitVec 32 := 0#32
  let c0_i32_229 : BitVec 32 := 0#32
  ![v399.toNat, 0, 0, 0]
def k1_off36 (i : grid1.Coords) (v401 : BitVec 32) : Fin 3 → Nat :=
  let arg0 : BitVec 32 := BitVec.ofNat 32 (i 0).val
  let c8_i32_15 : BitVec 32 := 8#32
  let v27 : BitVec 32 := Scalar.muli arg0 c8_i32_15
  let c16_i32_16 : BitVec 32 := 16#32
  let v28 : BitVec 32 := Scalar.addi v27 c16_i32_16
  let c4_i32 : BitVec 32 := 4#32
  let v29 : BitVec 32 := Scalar.addi v28 c4_i32
  let c0_i32_230 : BitVec 32 := 0#32
  ![v401.toNat, v29.toNat, 0]

def k1_chk21 (i : grid1.Coords) (v401 : BitVec 32) : Prop :=
  (∀ (k1_h6 : k1_cond6 i = 1#1), ∀ a, (k1_off36 i v401) a + S257x1x1024.size a ≤ S2048x64x1024.size a)
theorem k1_off36_inb : ∀ (i : grid1.Coords) (v401 : BitVec 32) (k1_hw21 : k1_chk21 i v401), ∀ (k1_h6 : k1_cond6 i = 1#1), ∀ a, (k1_off36 i v401) a + S257x1x1024.size a ≤ S2048x64x1024.size a := fun i v401 k1_hw21 k1_h6 => k1_hw21 k1_h6

def k1_cond7 (i : grid1.Coords) : BitVec 1 :=
  let arg0 : BitVec 32 := BitVec.ofNat 32 (i 0).val
  let c8_i32_19 : BitVec 32 := 8#32
  let v33 : BitVec 32 := Scalar.muli arg0 c8_i32_19
  let c16_i32_20 : BitVec 32 := 16#32
  let v34 : BitVec 32 := Scalar.addi v33 c16_i32_20
  let c5_i32 : BitVec 32 := 5#32
  let v35 : BitVec 32 := Scalar.addi v34 c5_i32
  let c64_i32_21 : BitVec 32 := 64#32
  let v36 : BitVec 1 := Scalar.cmpi .slt v35 c64_i32_21
  let v37 : BitVec 32 := Scalar.extui v36
  let c0_i32_22 : BitVec 32 := 0#32
  let v38 : BitVec 1 := Scalar.cmpi .ne v37 c0_i32_22
  v38

def k1_off37 (i : grid1.Coords) : Fin 1 → Nat :=
  let arg0 : BitVec 32 := BitVec.ofNat 32 (i 0).val
  let c8_i32_19 : BitVec 32 := 8#32
  let v33 : BitVec 32 := Scalar.muli arg0 c8_i32_19
  let c16_i32_20 : BitVec 32 := 16#32
  let v34 : BitVec 32 := Scalar.addi v33 c16_i32_20
  let c5_i32 : BitVec 32 := 5#32
  let v35 : BitVec 32 := Scalar.addi v34 c5_i32
  let v400 : Index := Scalar.indexCast v35
  ![v400.toNat]
def k1_off38 (i : grid1.Coords) : Fin 1 → Nat :=
  let arg0 : BitVec 32 := BitVec.ofNat 32 (i 0).val
  let c8_i32_19 : BitVec 32 := 8#32
  let v33 : BitVec 32 := Scalar.muli arg0 c8_i32_19
  let c16_i32_20 : BitVec 32 := 16#32
  let v34 : BitVec 32 := Scalar.addi v33 c16_i32_20
  let c5_i32 : BitVec 32 := 5#32
  let v35 : BitVec 32 := Scalar.addi v34 c5_i32
  let c24_i32_226 : BitVec 32 := 24#32
  let v399 : BitVec 32 := Scalar.remsi v35 c24_i32_226
  ![v399.toNat]
def k1_off39 (i : grid1.Coords) : Fin 4 → Nat :=
  let arg0 : BitVec 32 := BitVec.ofNat 32 (i 0).val
  let c8_i32_19 : BitVec 32 := 8#32
  let v33 : BitVec 32 := Scalar.muli arg0 c8_i32_19
  let c16_i32_20 : BitVec 32 := 16#32
  let v34 : BitVec 32 := Scalar.addi v33 c16_i32_20
  let c5_i32 : BitVec 32 := 5#32
  let v35 : BitVec 32 := Scalar.addi v34 c5_i32
  let c24_i32_226 : BitVec 32 := 24#32
  let v399 : BitVec 32 := Scalar.remsi v35 c24_i32_226
  let c0_i32_227 : BitVec 32 := 0#32
  let c0_i32_228 : BitVec 32 := 0#32
  let c0_i32_229 : BitVec 32 := 0#32
  ![v399.toNat, 0, 0, 0]
def k1_off40 (i : grid1.Coords) (v401 : BitVec 32) : Fin 3 → Nat :=
  let arg0 : BitVec 32 := BitVec.ofNat 32 (i 0).val
  let c8_i32_19 : BitVec 32 := 8#32
  let v33 : BitVec 32 := Scalar.muli arg0 c8_i32_19
  let c16_i32_20 : BitVec 32 := 16#32
  let v34 : BitVec 32 := Scalar.addi v33 c16_i32_20
  let c5_i32 : BitVec 32 := 5#32
  let v35 : BitVec 32 := Scalar.addi v34 c5_i32
  let c0_i32_230 : BitVec 32 := 0#32
  ![v401.toNat, v35.toNat, 0]

def k1_chk22 (i : grid1.Coords) (v401 : BitVec 32) : Prop :=
  (∀ (k1_h7 : k1_cond7 i = 1#1), ∀ a, (k1_off40 i v401) a + S257x1x1024.size a ≤ S2048x64x1024.size a)
theorem k1_off40_inb : ∀ (i : grid1.Coords) (v401 : BitVec 32) (k1_hw22 : k1_chk22 i v401), ∀ (k1_h7 : k1_cond7 i = 1#1), ∀ a, (k1_off40 i v401) a + S257x1x1024.size a ≤ S2048x64x1024.size a := fun i v401 k1_hw22 k1_h7 => k1_hw22 k1_h7

def k1_cond8 (i : grid1.Coords) : BitVec 1 :=
  let arg0 : BitVec 32 := BitVec.ofNat 32 (i 0).val
  let c8_i32_23 : BitVec 32 := 8#32
  let v39 : BitVec 32 := Scalar.muli arg0 c8_i32_23
  let c16_i32_24 : BitVec 32 := 16#32
  let v40 : BitVec 32 := Scalar.addi v39 c16_i32_24
  let c6_i32 : BitVec 32 := 6#32
  let v41 : BitVec 32 := Scalar.addi v40 c6_i32
  let c64_i32_25 : BitVec 32 := 64#32
  let v42 : BitVec 1 := Scalar.cmpi .slt v41 c64_i32_25
  let v43 : BitVec 32 := Scalar.extui v42
  let c0_i32_26 : BitVec 32 := 0#32
  let v44 : BitVec 1 := Scalar.cmpi .ne v43 c0_i32_26
  v44

def k1_off41 (i : grid1.Coords) : Fin 1 → Nat :=
  let arg0 : BitVec 32 := BitVec.ofNat 32 (i 0).val
  let c8_i32_23 : BitVec 32 := 8#32
  let v39 : BitVec 32 := Scalar.muli arg0 c8_i32_23
  let c16_i32_24 : BitVec 32 := 16#32
  let v40 : BitVec 32 := Scalar.addi v39 c16_i32_24
  let c6_i32 : BitVec 32 := 6#32
  let v41 : BitVec 32 := Scalar.addi v40 c6_i32
  let v400 : Index := Scalar.indexCast v41
  ![v400.toNat]
def k1_off42 (i : grid1.Coords) : Fin 1 → Nat :=
  let arg0 : BitVec 32 := BitVec.ofNat 32 (i 0).val
  let c8_i32_23 : BitVec 32 := 8#32
  let v39 : BitVec 32 := Scalar.muli arg0 c8_i32_23
  let c16_i32_24 : BitVec 32 := 16#32
  let v40 : BitVec 32 := Scalar.addi v39 c16_i32_24
  let c6_i32 : BitVec 32 := 6#32
  let v41 : BitVec 32 := Scalar.addi v40 c6_i32
  let c24_i32_226 : BitVec 32 := 24#32
  let v399 : BitVec 32 := Scalar.remsi v41 c24_i32_226
  ![v399.toNat]
def k1_off43 (i : grid1.Coords) : Fin 4 → Nat :=
  let arg0 : BitVec 32 := BitVec.ofNat 32 (i 0).val
  let c8_i32_23 : BitVec 32 := 8#32
  let v39 : BitVec 32 := Scalar.muli arg0 c8_i32_23
  let c16_i32_24 : BitVec 32 := 16#32
  let v40 : BitVec 32 := Scalar.addi v39 c16_i32_24
  let c6_i32 : BitVec 32 := 6#32
  let v41 : BitVec 32 := Scalar.addi v40 c6_i32
  let c24_i32_226 : BitVec 32 := 24#32
  let v399 : BitVec 32 := Scalar.remsi v41 c24_i32_226
  let c0_i32_227 : BitVec 32 := 0#32
  let c0_i32_228 : BitVec 32 := 0#32
  let c0_i32_229 : BitVec 32 := 0#32
  ![v399.toNat, 0, 0, 0]
def k1_off44 (i : grid1.Coords) (v401 : BitVec 32) : Fin 3 → Nat :=
  let arg0 : BitVec 32 := BitVec.ofNat 32 (i 0).val
  let c8_i32_23 : BitVec 32 := 8#32
  let v39 : BitVec 32 := Scalar.muli arg0 c8_i32_23
  let c16_i32_24 : BitVec 32 := 16#32
  let v40 : BitVec 32 := Scalar.addi v39 c16_i32_24
  let c6_i32 : BitVec 32 := 6#32
  let v41 : BitVec 32 := Scalar.addi v40 c6_i32
  let c0_i32_230 : BitVec 32 := 0#32
  ![v401.toNat, v41.toNat, 0]

def k1_chk23 (i : grid1.Coords) (v401 : BitVec 32) : Prop :=
  (∀ (k1_h8 : k1_cond8 i = 1#1), ∀ a, (k1_off44 i v401) a + S257x1x1024.size a ≤ S2048x64x1024.size a)
theorem k1_off44_inb : ∀ (i : grid1.Coords) (v401 : BitVec 32) (k1_hw23 : k1_chk23 i v401), ∀ (k1_h8 : k1_cond8 i = 1#1), ∀ a, (k1_off44 i v401) a + S257x1x1024.size a ≤ S2048x64x1024.size a := fun i v401 k1_hw23 k1_h8 => k1_hw23 k1_h8

def k1_cond9 (i : grid1.Coords) : BitVec 1 :=
  let arg0 : BitVec 32 := BitVec.ofNat 32 (i 0).val
  let c8_i32_27 : BitVec 32 := 8#32
  let v45 : BitVec 32 := Scalar.muli arg0 c8_i32_27
  let c16_i32_28 : BitVec 32 := 16#32
  let v46 : BitVec 32 := Scalar.addi v45 c16_i32_28
  let c7_i32 : BitVec 32 := 7#32
  let v47 : BitVec 32 := Scalar.addi v46 c7_i32
  let c64_i32_29 : BitVec 32 := 64#32
  let v48 : BitVec 1 := Scalar.cmpi .slt v47 c64_i32_29
  let v49 : BitVec 32 := Scalar.extui v48
  let c0_i32_30 : BitVec 32 := 0#32
  let v50 : BitVec 1 := Scalar.cmpi .ne v49 c0_i32_30
  v50

def k1_off45 (i : grid1.Coords) : Fin 1 → Nat :=
  let arg0 : BitVec 32 := BitVec.ofNat 32 (i 0).val
  let c8_i32_27 : BitVec 32 := 8#32
  let v45 : BitVec 32 := Scalar.muli arg0 c8_i32_27
  let c16_i32_28 : BitVec 32 := 16#32
  let v46 : BitVec 32 := Scalar.addi v45 c16_i32_28
  let c7_i32 : BitVec 32 := 7#32
  let v47 : BitVec 32 := Scalar.addi v46 c7_i32
  let v400 : Index := Scalar.indexCast v47
  ![v400.toNat]
def k1_off46 (i : grid1.Coords) : Fin 1 → Nat :=
  let arg0 : BitVec 32 := BitVec.ofNat 32 (i 0).val
  let c8_i32_27 : BitVec 32 := 8#32
  let v45 : BitVec 32 := Scalar.muli arg0 c8_i32_27
  let c16_i32_28 : BitVec 32 := 16#32
  let v46 : BitVec 32 := Scalar.addi v45 c16_i32_28
  let c7_i32 : BitVec 32 := 7#32
  let v47 : BitVec 32 := Scalar.addi v46 c7_i32
  let c24_i32_226 : BitVec 32 := 24#32
  let v399 : BitVec 32 := Scalar.remsi v47 c24_i32_226
  ![v399.toNat]
def k1_off47 (i : grid1.Coords) : Fin 4 → Nat :=
  let arg0 : BitVec 32 := BitVec.ofNat 32 (i 0).val
  let c8_i32_27 : BitVec 32 := 8#32
  let v45 : BitVec 32 := Scalar.muli arg0 c8_i32_27
  let c16_i32_28 : BitVec 32 := 16#32
  let v46 : BitVec 32 := Scalar.addi v45 c16_i32_28
  let c7_i32 : BitVec 32 := 7#32
  let v47 : BitVec 32 := Scalar.addi v46 c7_i32
  let c24_i32_226 : BitVec 32 := 24#32
  let v399 : BitVec 32 := Scalar.remsi v47 c24_i32_226
  let c0_i32_227 : BitVec 32 := 0#32
  let c0_i32_228 : BitVec 32 := 0#32
  let c0_i32_229 : BitVec 32 := 0#32
  ![v399.toNat, 0, 0, 0]
def k1_off48 (i : grid1.Coords) (v401 : BitVec 32) : Fin 3 → Nat :=
  let arg0 : BitVec 32 := BitVec.ofNat 32 (i 0).val
  let c8_i32_27 : BitVec 32 := 8#32
  let v45 : BitVec 32 := Scalar.muli arg0 c8_i32_27
  let c16_i32_28 : BitVec 32 := 16#32
  let v46 : BitVec 32 := Scalar.addi v45 c16_i32_28
  let c7_i32 : BitVec 32 := 7#32
  let v47 : BitVec 32 := Scalar.addi v46 c7_i32
  let c0_i32_230 : BitVec 32 := 0#32
  ![v401.toNat, v47.toNat, 0]

def k1_chk24 (i : grid1.Coords) (v401 : BitVec 32) : Prop :=
  (∀ (k1_h9 : k1_cond9 i = 1#1), ∀ a, (k1_off48 i v401) a + S257x1x1024.size a ≤ S2048x64x1024.size a)
theorem k1_off48_inb : ∀ (i : grid1.Coords) (v401 : BitVec 32) (k1_hw24 : k1_chk24 i v401), ∀ (k1_h9 : k1_cond9 i = 1#1), ∀ a, (k1_off48 i v401) a + S257x1x1024.size a ≤ S2048x64x1024.size a := fun i v401 k1_hw24 k1_h9 => k1_hw24 k1_h9

def k1_off49 (i : grid1.Coords) : Fin 1 → Nat :=
  let arg0 : BitVec 32 := BitVec.ofNat 32 (i 0).val
  let c8_i32_31 : BitVec 32 := 8#32
  let v51 : BitVec 32 := Scalar.muli arg0 c8_i32_31
  let c0_i32_32 : BitVec 32 := 0#32
  let v52 : BitVec 32 := Scalar.addi v51 c0_i32_32
  let v54 : Index := Scalar.indexCast v52
  ![v54.toNat]
def k1_off50 (i : grid1.Coords) : Fin 1 → Nat :=
  let arg0 : BitVec 32 := BitVec.ofNat 32 (i 0).val
  let c8_i32_31 : BitVec 32 := 8#32
  let v51 : BitVec 32 := Scalar.muli arg0 c8_i32_31
  let c0_i32_32 : BitVec 32 := 0#32
  let v52 : BitVec 32 := Scalar.addi v51 c0_i32_32
  let c24_i32 : BitVec 32 := 24#32
  let v53 : BitVec 32 := Scalar.remsi v52 c24_i32
  ![v53.toNat]
def k1_off51 (i : grid1.Coords) : Fin 4 → Nat :=
  let arg0 : BitVec 32 := BitVec.ofNat 32 (i 0).val
  let c8_i32_31 : BitVec 32 := 8#32
  let v51 : BitVec 32 := Scalar.muli arg0 c8_i32_31
  let c0_i32_32 : BitVec 32 := 0#32
  let v52 : BitVec 32 := Scalar.addi v51 c0_i32_32
  let c24_i32 : BitVec 32 := 24#32
  let v53 : BitVec 32 := Scalar.remsi v52 c24_i32
  let c0_i32_33 : BitVec 32 := 0#32
  let c0_i32_34 : BitVec 32 := 0#32
  let c0_i32_35 : BitVec 32 := 0#32
  ![v53.toNat, 0, 0, 0]
def k1_off52 (i : grid1.Coords) (v55 : BitVec 32) : Fin 3 → Nat :=
  let arg0 : BitVec 32 := BitVec.ofNat 32 (i 0).val
  let c8_i32_31 : BitVec 32 := 8#32
  let v51 : BitVec 32 := Scalar.muli arg0 c8_i32_31
  let c0_i32_32 : BitVec 32 := 0#32
  let v52 : BitVec 32 := Scalar.addi v51 c0_i32_32
  let c0_i32_36 : BitVec 32 := 0#32
  ![v55.toNat, v52.toNat, 0]

def k1_chk25 (i : grid1.Coords) (v55 : BitVec 32) : Prop :=
  (∀ a, (k1_off52 i v55) a + S257x1x1024.size a ≤ S2048x64x1024.size a)
theorem k1_off52_inb : ∀ (i : grid1.Coords) (v55 : BitVec 32) (k1_hw25 : k1_chk25 i v55), ∀ a, (k1_off52 i v55) a + S257x1x1024.size a ≤ S2048x64x1024.size a := fun i v55 k1_hw25 => k1_hw25

def k1_off53 (i : grid1.Coords) : Fin 1 → Nat :=
  let arg0 : BitVec 32 := BitVec.ofNat 32 (i 0).val
  let c8_i32_37 : BitVec 32 := 8#32
  let v61 : BitVec 32 := Scalar.muli arg0 c8_i32_37
  let c1_i32_38 : BitVec 32 := 1#32
  let v62 : BitVec 32 := Scalar.addi v61 c1_i32_38
  let v64 : Index := Scalar.indexCast v62
  ![v64.toNat]
def k1_off54 (i : grid1.Coords) : Fin 1 → Nat :=
  let arg0 : BitVec 32 := BitVec.ofNat 32 (i 0).val
  let c8_i32_37 : BitVec 32 := 8#32
  let v61 : BitVec 32 := Scalar.muli arg0 c8_i32_37
  let c1_i32_38 : BitVec 32 := 1#32
  let v62 : BitVec 32 := Scalar.addi v61 c1_i32_38
  let c24_i32_39 : BitVec 32 := 24#32
  let v63 : BitVec 32 := Scalar.remsi v62 c24_i32_39
  ![v63.toNat]
def k1_off55 (i : grid1.Coords) : Fin 4 → Nat :=
  let arg0 : BitVec 32 := BitVec.ofNat 32 (i 0).val
  let c8_i32_37 : BitVec 32 := 8#32
  let v61 : BitVec 32 := Scalar.muli arg0 c8_i32_37
  let c1_i32_38 : BitVec 32 := 1#32
  let v62 : BitVec 32 := Scalar.addi v61 c1_i32_38
  let c24_i32_39 : BitVec 32 := 24#32
  let v63 : BitVec 32 := Scalar.remsi v62 c24_i32_39
  let c0_i32_40 : BitVec 32 := 0#32
  let c0_i32_41 : BitVec 32 := 0#32
  let c0_i32_42 : BitVec 32 := 0#32
  ![v63.toNat, 0, 0, 0]
def k1_off56 (i : grid1.Coords) (v65 : BitVec 32) : Fin 3 → Nat :=
  let arg0 : BitVec 32 := BitVec.ofNat 32 (i 0).val
  let c8_i32_37 : BitVec 32 := 8#32
  let v61 : BitVec 32 := Scalar.muli arg0 c8_i32_37
  let c1_i32_38 : BitVec 32 := 1#32
  let v62 : BitVec 32 := Scalar.addi v61 c1_i32_38
  let c0_i32_43 : BitVec 32 := 0#32
  ![v65.toNat, v62.toNat, 0]

def k1_chk26 (i : grid1.Coords) (v65 : BitVec 32) : Prop :=
  (∀ a, (k1_off56 i v65) a + S257x1x1024.size a ≤ S2048x64x1024.size a)
theorem k1_off56_inb : ∀ (i : grid1.Coords) (v65 : BitVec 32) (k1_hw26 : k1_chk26 i v65), ∀ a, (k1_off56 i v65) a + S257x1x1024.size a ≤ S2048x64x1024.size a := fun i v65 k1_hw26 => k1_hw26

def k1_off57 (i : grid1.Coords) : Fin 1 → Nat :=
  let arg0 : BitVec 32 := BitVec.ofNat 32 (i 0).val
  let c8_i32_44 : BitVec 32 := 8#32
  let v71 : BitVec 32 := Scalar.muli arg0 c8_i32_44
  let c2_i32_45 : BitVec 32 := 2#32
  let v72 : BitVec 32 := Scalar.addi v71 c2_i32_45
  let v74 : Index := Scalar.indexCast v72
  ![v74.toNat]
def k1_off58 (i : grid1.Coords) : Fin 1 → Nat :=
  let arg0 : BitVec 32 := BitVec.ofNat 32 (i 0).val
  let c8_i32_44 : BitVec 32 := 8#32
  let v71 : BitVec 32 := Scalar.muli arg0 c8_i32_44
  let c2_i32_45 : BitVec 32 := 2#32
  let v72 : BitVec 32 := Scalar.addi v71 c2_i32_45
  let c24_i32_46 : BitVec 32 := 24#32
  let v73 : BitVec 32 := Scalar.remsi v72 c24_i32_46
  ![v73.toNat]
def k1_off59 (i : grid1.Coords) : Fin 4 → Nat :=
  let arg0 : BitVec 32 := BitVec.ofNat 32 (i 0).val
  let c8_i32_44 : BitVec 32 := 8#32
  let v71 : BitVec 32 := Scalar.muli arg0 c8_i32_44
  let c2_i32_45 : BitVec 32 := 2#32
  let v72 : BitVec 32 := Scalar.addi v71 c2_i32_45
  let c24_i32_46 : BitVec 32 := 24#32
  let v73 : BitVec 32 := Scalar.remsi v72 c24_i32_46
  let c0_i32_47 : BitVec 32 := 0#32
  let c0_i32_48 : BitVec 32 := 0#32
  let c0_i32_49 : BitVec 32 := 0#32
  ![v73.toNat, 0, 0, 0]
def k1_off60 (i : grid1.Coords) (v75 : BitVec 32) : Fin 3 → Nat :=
  let arg0 : BitVec 32 := BitVec.ofNat 32 (i 0).val
  let c8_i32_44 : BitVec 32 := 8#32
  let v71 : BitVec 32 := Scalar.muli arg0 c8_i32_44
  let c2_i32_45 : BitVec 32 := 2#32
  let v72 : BitVec 32 := Scalar.addi v71 c2_i32_45
  let c0_i32_50 : BitVec 32 := 0#32
  ![v75.toNat, v72.toNat, 0]

def k1_chk27 (i : grid1.Coords) (v75 : BitVec 32) : Prop :=
  (∀ a, (k1_off60 i v75) a + S257x1x1024.size a ≤ S2048x64x1024.size a)
theorem k1_off60_inb : ∀ (i : grid1.Coords) (v75 : BitVec 32) (k1_hw27 : k1_chk27 i v75), ∀ a, (k1_off60 i v75) a + S257x1x1024.size a ≤ S2048x64x1024.size a := fun i v75 k1_hw27 => k1_hw27

def k1_off61 (i : grid1.Coords) : Fin 1 → Nat :=
  let arg0 : BitVec 32 := BitVec.ofNat 32 (i 0).val
  let c8_i32_51 : BitVec 32 := 8#32
  let v81 : BitVec 32 := Scalar.muli arg0 c8_i32_51
  let c3_i32_52 : BitVec 32 := 3#32
  let v82 : BitVec 32 := Scalar.addi v81 c3_i32_52
  let v84 : Index := Scalar.indexCast v82
  ![v84.toNat]
def k1_off62 (i : grid1.Coords) : Fin 1 → Nat :=
  let arg0 : BitVec 32 := BitVec.ofNat 32 (i 0).val
  let c8_i32_51 : BitVec 32 := 8#32
  let v81 : BitVec 32 := Scalar.muli arg0 c8_i32_51
  let c3_i32_52 : BitVec 32 := 3#32
  let v82 : BitVec 32 := Scalar.addi v81 c3_i32_52
  let c24_i32_53 : BitVec 32 := 24#32
  let v83 : BitVec 32 := Scalar.remsi v82 c24_i32_53
  ![v83.toNat]
def k1_off63 (i : grid1.Coords) : Fin 4 → Nat :=
  let arg0 : BitVec 32 := BitVec.ofNat 32 (i 0).val
  let c8_i32_51 : BitVec 32 := 8#32
  let v81 : BitVec 32 := Scalar.muli arg0 c8_i32_51
  let c3_i32_52 : BitVec 32 := 3#32
  let v82 : BitVec 32 := Scalar.addi v81 c3_i32_52
  let c24_i32_53 : BitVec 32 := 24#32
  let v83 : BitVec 32 := Scalar.remsi v82 c24_i32_53
  let c0_i32_54 : BitVec 32 := 0#32
  let c0_i32_55 : BitVec 32 := 0#32
  let c0_i32_56 : BitVec 32 := 0#32
  ![v83.toNat, 0, 0, 0]
def k1_off64 (i : grid1.Coords) (v85 : BitVec 32) : Fin 3 → Nat :=
  let arg0 : BitVec 32 := BitVec.ofNat 32 (i 0).val
  let c8_i32_51 : BitVec 32 := 8#32
  let v81 : BitVec 32 := Scalar.muli arg0 c8_i32_51
  let c3_i32_52 : BitVec 32 := 3#32
  let v82 : BitVec 32 := Scalar.addi v81 c3_i32_52
  let c0_i32_57 : BitVec 32 := 0#32
  ![v85.toNat, v82.toNat, 0]

def k1_chk28 (i : grid1.Coords) (v85 : BitVec 32) : Prop :=
  (∀ a, (k1_off64 i v85) a + S257x1x1024.size a ≤ S2048x64x1024.size a)
theorem k1_off64_inb : ∀ (i : grid1.Coords) (v85 : BitVec 32) (k1_hw28 : k1_chk28 i v85), ∀ a, (k1_off64 i v85) a + S257x1x1024.size a ≤ S2048x64x1024.size a := fun i v85 k1_hw28 => k1_hw28

def k1_off65 (i : grid1.Coords) : Fin 1 → Nat :=
  let arg0 : BitVec 32 := BitVec.ofNat 32 (i 0).val
  let c8_i32_58 : BitVec 32 := 8#32
  let v91 : BitVec 32 := Scalar.muli arg0 c8_i32_58
  let c4_i32_59 : BitVec 32 := 4#32
  let v92 : BitVec 32 := Scalar.addi v91 c4_i32_59
  let v94 : Index := Scalar.indexCast v92
  ![v94.toNat]
def k1_off66 (i : grid1.Coords) : Fin 1 → Nat :=
  let arg0 : BitVec 32 := BitVec.ofNat 32 (i 0).val
  let c8_i32_58 : BitVec 32 := 8#32
  let v91 : BitVec 32 := Scalar.muli arg0 c8_i32_58
  let c4_i32_59 : BitVec 32 := 4#32
  let v92 : BitVec 32 := Scalar.addi v91 c4_i32_59
  let c24_i32_60 : BitVec 32 := 24#32
  let v93 : BitVec 32 := Scalar.remsi v92 c24_i32_60
  ![v93.toNat]
def k1_off67 (i : grid1.Coords) : Fin 4 → Nat :=
  let arg0 : BitVec 32 := BitVec.ofNat 32 (i 0).val
  let c8_i32_58 : BitVec 32 := 8#32
  let v91 : BitVec 32 := Scalar.muli arg0 c8_i32_58
  let c4_i32_59 : BitVec 32 := 4#32
  let v92 : BitVec 32 := Scalar.addi v91 c4_i32_59
  let c24_i32_60 : BitVec 32 := 24#32
  let v93 : BitVec 32 := Scalar.remsi v92 c24_i32_60
  let c0_i32_61 : BitVec 32 := 0#32
  let c0_i32_62 : BitVec 32 := 0#32
  let c0_i32_63 : BitVec 32 := 0#32
  ![v93.toNat, 0, 0, 0]
def k1_off68 (i : grid1.Coords) (v95 : BitVec 32) : Fin 3 → Nat :=
  let arg0 : BitVec 32 := BitVec.ofNat 32 (i 0).val
  let c8_i32_58 : BitVec 32 := 8#32
  let v91 : BitVec 32 := Scalar.muli arg0 c8_i32_58
  let c4_i32_59 : BitVec 32 := 4#32
  let v92 : BitVec 32 := Scalar.addi v91 c4_i32_59
  let c0_i32_64 : BitVec 32 := 0#32
  ![v95.toNat, v92.toNat, 0]

def k1_chk29 (i : grid1.Coords) (v95 : BitVec 32) : Prop :=
  (∀ a, (k1_off68 i v95) a + S257x1x1024.size a ≤ S2048x64x1024.size a)
theorem k1_off68_inb : ∀ (i : grid1.Coords) (v95 : BitVec 32) (k1_hw29 : k1_chk29 i v95), ∀ a, (k1_off68 i v95) a + S257x1x1024.size a ≤ S2048x64x1024.size a := fun i v95 k1_hw29 => k1_hw29

def k1_off69 (i : grid1.Coords) : Fin 1 → Nat :=
  let arg0 : BitVec 32 := BitVec.ofNat 32 (i 0).val
  let c8_i32_65 : BitVec 32 := 8#32
  let v101 : BitVec 32 := Scalar.muli arg0 c8_i32_65
  let c5_i32_66 : BitVec 32 := 5#32
  let v102 : BitVec 32 := Scalar.addi v101 c5_i32_66
  let v104 : Index := Scalar.indexCast v102
  ![v104.toNat]
def k1_off70 (i : grid1.Coords) : Fin 1 → Nat :=
  let arg0 : BitVec 32 := BitVec.ofNat 32 (i 0).val
  let c8_i32_65 : BitVec 32 := 8#32
  let v101 : BitVec 32 := Scalar.muli arg0 c8_i32_65
  let c5_i32_66 : BitVec 32 := 5#32
  let v102 : BitVec 32 := Scalar.addi v101 c5_i32_66
  let c24_i32_67 : BitVec 32 := 24#32
  let v103 : BitVec 32 := Scalar.remsi v102 c24_i32_67
  ![v103.toNat]
def k1_off71 (i : grid1.Coords) : Fin 4 → Nat :=
  let arg0 : BitVec 32 := BitVec.ofNat 32 (i 0).val
  let c8_i32_65 : BitVec 32 := 8#32
  let v101 : BitVec 32 := Scalar.muli arg0 c8_i32_65
  let c5_i32_66 : BitVec 32 := 5#32
  let v102 : BitVec 32 := Scalar.addi v101 c5_i32_66
  let c24_i32_67 : BitVec 32 := 24#32
  let v103 : BitVec 32 := Scalar.remsi v102 c24_i32_67
  let c0_i32_68 : BitVec 32 := 0#32
  let c0_i32_69 : BitVec 32 := 0#32
  let c0_i32_70 : BitVec 32 := 0#32
  ![v103.toNat, 0, 0, 0]
def k1_off72 (i : grid1.Coords) (v105 : BitVec 32) : Fin 3 → Nat :=
  let arg0 : BitVec 32 := BitVec.ofNat 32 (i 0).val
  let c8_i32_65 : BitVec 32 := 8#32
  let v101 : BitVec 32 := Scalar.muli arg0 c8_i32_65
  let c5_i32_66 : BitVec 32 := 5#32
  let v102 : BitVec 32 := Scalar.addi v101 c5_i32_66
  let c0_i32_71 : BitVec 32 := 0#32
  ![v105.toNat, v102.toNat, 0]

def k1_chk30 (i : grid1.Coords) (v105 : BitVec 32) : Prop :=
  (∀ a, (k1_off72 i v105) a + S257x1x1024.size a ≤ S2048x64x1024.size a)
theorem k1_off72_inb : ∀ (i : grid1.Coords) (v105 : BitVec 32) (k1_hw30 : k1_chk30 i v105), ∀ a, (k1_off72 i v105) a + S257x1x1024.size a ≤ S2048x64x1024.size a := fun i v105 k1_hw30 => k1_hw30

def k1_off73 (i : grid1.Coords) : Fin 1 → Nat :=
  let arg0 : BitVec 32 := BitVec.ofNat 32 (i 0).val
  let c8_i32_72 : BitVec 32 := 8#32
  let v111 : BitVec 32 := Scalar.muli arg0 c8_i32_72
  let c6_i32_73 : BitVec 32 := 6#32
  let v112 : BitVec 32 := Scalar.addi v111 c6_i32_73
  let v114 : Index := Scalar.indexCast v112
  ![v114.toNat]
def k1_off74 (i : grid1.Coords) : Fin 1 → Nat :=
  let arg0 : BitVec 32 := BitVec.ofNat 32 (i 0).val
  let c8_i32_72 : BitVec 32 := 8#32
  let v111 : BitVec 32 := Scalar.muli arg0 c8_i32_72
  let c6_i32_73 : BitVec 32 := 6#32
  let v112 : BitVec 32 := Scalar.addi v111 c6_i32_73
  let c24_i32_74 : BitVec 32 := 24#32
  let v113 : BitVec 32 := Scalar.remsi v112 c24_i32_74
  ![v113.toNat]
def k1_off75 (i : grid1.Coords) : Fin 4 → Nat :=
  let arg0 : BitVec 32 := BitVec.ofNat 32 (i 0).val
  let c8_i32_72 : BitVec 32 := 8#32
  let v111 : BitVec 32 := Scalar.muli arg0 c8_i32_72
  let c6_i32_73 : BitVec 32 := 6#32
  let v112 : BitVec 32 := Scalar.addi v111 c6_i32_73
  let c24_i32_74 : BitVec 32 := 24#32
  let v113 : BitVec 32 := Scalar.remsi v112 c24_i32_74
  let c0_i32_75 : BitVec 32 := 0#32
  let c0_i32_76 : BitVec 32 := 0#32
  let c0_i32_77 : BitVec 32 := 0#32
  ![v113.toNat, 0, 0, 0]
def k1_off76 (i : grid1.Coords) (v115 : BitVec 32) : Fin 3 → Nat :=
  let arg0 : BitVec 32 := BitVec.ofNat 32 (i 0).val
  let c8_i32_72 : BitVec 32 := 8#32
  let v111 : BitVec 32 := Scalar.muli arg0 c8_i32_72
  let c6_i32_73 : BitVec 32 := 6#32
  let v112 : BitVec 32 := Scalar.addi v111 c6_i32_73
  let c0_i32_78 : BitVec 32 := 0#32
  ![v115.toNat, v112.toNat, 0]

def k1_chk31 (i : grid1.Coords) (v115 : BitVec 32) : Prop :=
  (∀ a, (k1_off76 i v115) a + S257x1x1024.size a ≤ S2048x64x1024.size a)
theorem k1_off76_inb : ∀ (i : grid1.Coords) (v115 : BitVec 32) (k1_hw31 : k1_chk31 i v115), ∀ a, (k1_off76 i v115) a + S257x1x1024.size a ≤ S2048x64x1024.size a := fun i v115 k1_hw31 => k1_hw31

def k1_off77 (i : grid1.Coords) : Fin 1 → Nat :=
  let arg0 : BitVec 32 := BitVec.ofNat 32 (i 0).val
  let c8_i32_79 : BitVec 32 := 8#32
  let v121 : BitVec 32 := Scalar.muli arg0 c8_i32_79
  let c7_i32_80 : BitVec 32 := 7#32
  let v122 : BitVec 32 := Scalar.addi v121 c7_i32_80
  let v124 : Index := Scalar.indexCast v122
  ![v124.toNat]
def k1_off78 (i : grid1.Coords) : Fin 1 → Nat :=
  let arg0 : BitVec 32 := BitVec.ofNat 32 (i 0).val
  let c8_i32_79 : BitVec 32 := 8#32
  let v121 : BitVec 32 := Scalar.muli arg0 c8_i32_79
  let c7_i32_80 : BitVec 32 := 7#32
  let v122 : BitVec 32 := Scalar.addi v121 c7_i32_80
  let c24_i32_81 : BitVec 32 := 24#32
  let v123 : BitVec 32 := Scalar.remsi v122 c24_i32_81
  ![v123.toNat]
def k1_off79 (i : grid1.Coords) : Fin 4 → Nat :=
  let arg0 : BitVec 32 := BitVec.ofNat 32 (i 0).val
  let c8_i32_79 : BitVec 32 := 8#32
  let v121 : BitVec 32 := Scalar.muli arg0 c8_i32_79
  let c7_i32_80 : BitVec 32 := 7#32
  let v122 : BitVec 32 := Scalar.addi v121 c7_i32_80
  let c24_i32_81 : BitVec 32 := 24#32
  let v123 : BitVec 32 := Scalar.remsi v122 c24_i32_81
  let c0_i32_82 : BitVec 32 := 0#32
  let c0_i32_83 : BitVec 32 := 0#32
  let c0_i32_84 : BitVec 32 := 0#32
  ![v123.toNat, 0, 0, 0]
def k1_off80 (i : grid1.Coords) (v125 : BitVec 32) : Fin 3 → Nat :=
  let arg0 : BitVec 32 := BitVec.ofNat 32 (i 0).val
  let c8_i32_79 : BitVec 32 := 8#32
  let v121 : BitVec 32 := Scalar.muli arg0 c8_i32_79
  let c7_i32_80 : BitVec 32 := 7#32
  let v122 : BitVec 32 := Scalar.addi v121 c7_i32_80
  let c0_i32_85 : BitVec 32 := 0#32
  ![v125.toNat, v122.toNat, 0]

def k1_chk32 (i : grid1.Coords) (v125 : BitVec 32) : Prop :=
  (∀ a, (k1_off80 i v125) a + S257x1x1024.size a ≤ S2048x64x1024.size a)
theorem k1_off80_inb : ∀ (i : grid1.Coords) (v125 : BitVec 32) (k1_hw32 : k1_chk32 i v125), ∀ a, (k1_off80 i v125) a + S257x1x1024.size a ≤ S2048x64x1024.size a := fun i v125 k1_hw32 => k1_hw32

def k1_off81 (i : grid1.Coords) (c0_i32_89 : BitVec 32) : Fin 4 → Nat :=
  let arg0 : BitVec 32 := BitVec.ofNat 32 (i 0).val
  let c8_i32_88 : BitVec 32 := 8#32
  let v133 : BitVec 32 := Scalar.muli arg0 c8_i32_88
  let v134 : BitVec 32 := Scalar.addi v133 c0_i32_89
  let c24_i32_90 : BitVec 32 := 24#32
  let v135 : BitVec 32 := Scalar.remsi v134 c24_i32_90
  let v136 : Index := Scalar.indexCast v135
  let c0_91 : Index := 0#32
  let c0_92 : Index := 0#32
  let c0_93 : Index := 0#32
  ![v136.toNat, 0, 0, 0]
def k1_off82 (i : grid1.Coords) (c0_i32_137 : BitVec 32) : Fin 1 → Nat :=
  let arg0 : BitVec 32 := BitVec.ofNat 32 (i 0).val
  let c8_i32_136 : BitVec 32 := 8#32
  let v183 : BitVec 32 := Scalar.muli arg0 c8_i32_136
  let v184 : BitVec 32 := Scalar.addi v183 c0_i32_137
  let v185 : Index := Scalar.indexCast v184
  ![v185.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S64 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S64 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1x257 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S64x1024 : Shape := ⟨2, ![64, 1024]⟩
abbrev S2048x64x1024 : Shape := ⟨3, ![2048, 64, 1024]⟩
abbrev S2048x64 : Shape := ⟨2, ![2048, 64]⟩
abbrev S1024x1024 : Shape := ⟨2, ![1024, 1024]⟩
abbrev S1024x2048 : Shape := ⟨2, ![1024, 2048]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S_ : Shape := ⟨0, ![]⟩
abbrev S64 : Shape := ⟨1, ![64]⟩
abbrev S64x1 : Shape := ⟨2, ![64, 1]⟩
abbrev S64x1x1024 : Shape := ⟨3, ![64, 1, 1024]⟩
abbrev S64x2048x1024 : Shape := ⟨3, ![64, 2048, 1024]⟩
abbrev S1024x512 : Shape := ⟨2, ![1024, 512]⟩
abbrev S64x1x512 : Shape := ⟨3, ![64, 1, 512]⟩
abbrev S1x1x512 : Shape := ⟨3, ![1, 1, 512]⟩
abbrev S512x1 : Shape := ⟨2, ![512, 1]⟩
abbrev S64x1x1 : Shape := ⟨3, ![64, 1, 1]⟩
abbrev S1x1x1 : Shape := ⟨3, ![1, 1, 1]⟩
abbrev S257 : Shape := ⟨1, ![257]⟩
abbrev S1x257 : Shape := ⟨2, ![1, 257]⟩
abbrev S64x257 : Shape := ⟨2, ![64, 257]⟩
abbrev S64x257x1 : Shape := ⟨3, ![64, 257, 1]⟩
abbrev S64x257x1024 : Shape := ⟨3, ![64, 257, 1024]⟩
abbrev S64x1x257 : Shape := ⟨3, ![64, 1, 257]⟩
abbrev S64x2048 : Shape := ⟨2, ![64, 2048]⟩
abbrev S2048x1024 : Shape := ⟨2, ![2048, 1024]⟩

abbrev nBuf : Space → Nat
  | .hbm => 148
  | .vmem => 0
  | .smem => 0
  | _ => 0

abbrev hbmTy0_0 (i : Nat) : BufTy := match i % 128 with
  | 0 => ⟨S64x1024, .f32⟩
  | 1 => ⟨S2048x64x1024, .f32⟩
  | 2 => ⟨S2048x64, .i1⟩
  | 3 => ⟨S1024x1024, .f32⟩
  | 4 => ⟨S1024x2048, .f32⟩
  | 5 => ⟨S512x1024, .f32⟩
  | 6 => ⟨S512, .f32⟩
  | 7 => ⟨S1x512, .f32⟩
  | 8 => ⟨S1, .f32⟩
  | 9 => ⟨S2048x64, .i1⟩
  | 10 => ⟨S_, .i32⟩
  | 11 => ⟨S_, .i32⟩
  | 12 => ⟨S2048x64, .i32⟩
  | 13 => ⟨S2048x64, .i32⟩
  | 14 => ⟨S2048x64, .i32⟩
  | 15 => ⟨S2048x64, .i32⟩
  | 16 => ⟨S_, .i32⟩
  | 17 => ⟨S64, .i32⟩
  | 18 => ⟨S64x1, .i32⟩
  | 19 => ⟨S64x1, .f32⟩
  | 20 => ⟨S1024x1024, .f32⟩
  | 21 => ⟨S64x1024, .f32⟩
  | 22 => ⟨S64x1x1024, .f32⟩
  | 23 => ⟨S64x2048x1024, .f32⟩
  | 24 => ⟨S1024x512, .f32⟩
  | 25 => ⟨S64x1x512, .f32⟩
  | 26 => ⟨S1x1x512, .f32⟩
  | 27 => ⟨S64x1x512, .f32⟩
  | 28 => ⟨S64x1x512, .f32⟩
  | 29 => ⟨S64x1x512, .f32⟩
  | 30 => ⟨S512x1, .f32⟩
  | 31 => ⟨S64x1x1, .f32⟩
  | 32 => ⟨S1x1x1, .f32⟩
  | 33 => ⟨S64x1x1, .f32⟩
  | 34 => ⟨S64x1x1, .f32⟩
  | 35 => ⟨S64x1x1, .f32⟩
  | 36 => ⟨S64x1x1, .f32⟩
  | 37 => ⟨S_, .f32⟩
  | 38 => ⟨S64x1x1, .f32⟩
  | 39 => ⟨S64x1x1, .f32⟩
  | 40 => ⟨S_, .f32⟩
  | 41 => ⟨S64x1x1, .f32⟩
  | 42 => ⟨S64x1x1, .f32⟩
  | 43 => ⟨S64x1, .f32⟩
  | 44 => ⟨S64x1, .f32⟩
  | 45 => ⟨S_, .f32⟩
  | 46 => ⟨S64x1, .f32⟩
  | 47 => ⟨S64x1, .f32⟩
  | 48 => ⟨S64x1x1, .f32⟩
  | 49 => ⟨S_, .f32⟩
  | 50 => ⟨S64x1, .f32⟩
  | 51 => ⟨S64x1, .f32⟩
  | 52 => ⟨S64x1, .f32⟩
  | 53 => ⟨S64x1, .i32⟩
  | 54 => ⟨S_, .i32⟩
  | 55 => ⟨S64x1, .i32⟩
  | 56 => ⟨S64x1, .i32⟩
  | 57 => ⟨S64, .i32⟩
  | 58 => ⟨S_, .i32⟩
  | 59 => ⟨S_, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S64x1, .i32⟩
  | 67 => ⟨S257, .i32⟩
  | 68 => ⟨S1x257, .i32⟩
  | 69 => ⟨S64x257, .i32⟩
  | 70 => ⟨S64x257, .i32⟩
  | 71 => ⟨S64x257, .i32⟩
  | 72 => ⟨S64x257x1, .i32⟩
  | 73 => ⟨S_, .i32⟩
  | 74 => ⟨S64x257x1, .i32⟩
  | 75 => ⟨S64x257x1, .i1⟩
  | 76 => ⟨S_, .i32⟩
  | 77 => ⟨S64x257x1, .i32⟩
  | 78 => ⟨S64x257x1, .i32⟩
  | 79 => ⟨S64x257x1, .i32⟩
  | 80 => ⟨S1, .i32⟩
  | 81 => ⟨S_, .i32⟩
  | 82 => ⟨S64x257x1, .i32⟩
  | 83 => ⟨S64x257x1, .i1⟩
  | 84 => ⟨S1x1x1, .i32⟩
  | 85 => ⟨S64x257x1, .i32⟩
  | 86 => ⟨S64x257x1, .i1⟩
  | 87 => ⟨S64x257x1, .i1⟩
  | 88 => ⟨S_, .i1⟩
  | 89 => ⟨S64x257, .i1⟩
  | 90 => ⟨S64x257x1024, .f32⟩
  | 91 => ⟨S64x257x1024, .i1⟩
  | 92 => ⟨S_, .f32⟩
  | 93 => ⟨S64x257x1024, .f32⟩
  | 94 => ⟨S64x257x1024, .f32⟩
  | 95 => ⟨S64x1, .i32⟩
  | 96 => ⟨S64x1, .f32⟩
  | 97 => ⟨S257, .f32⟩
  | 98 => ⟨S1x257, .f32⟩
  | 99 => ⟨S64x257, .f32⟩
  | 100 => ⟨S64x257, .f32⟩
  | 101 => ⟨S64x257, .f32⟩
  | 102 => ⟨S64x1x257, .f32⟩
  | 103 => ⟨S64x1x257, .f32⟩
  | 104 => ⟨S64x1x257, .f32⟩
  | 105 => ⟨S64x1x257, .f32⟩
  | 106 => ⟨S64x1x257, .f32⟩
  | 107 => ⟨S_, .f32⟩
  | 108 => ⟨S64x1x257, .f32⟩
  | 109 => ⟨S64x1x257, .f32⟩
  | 110 => ⟨S64x1x257, .f32⟩
  | 111 => ⟨S64x1x257, .f32⟩
  | 112 => ⟨S_, .f32⟩
  | 113 => ⟨S64x1x257, .f32⟩
  | 114 => ⟨S64x1x257, .i1⟩
  | 115 => ⟨S64x1x1, .f32⟩
  | 116 => ⟨S_, .f32⟩
  | 117 => ⟨S64x1x1, .f32⟩
  | 118 => ⟨S64x1x1, .f32⟩
  | 119 => ⟨S64x1x257, .f32⟩
  | 120 => ⟨S64x1x257, .i1⟩
  | 121 => ⟨S64x1x257, .i1⟩
  | 122 => ⟨S_, .f32⟩
  | 123 => ⟨S_, .f32⟩
  | 124 => ⟨S64x1x257, .f32⟩
  | 125 => ⟨S64x1x257, .f32⟩
  | 126 => ⟨S_, .f32⟩
  | 127 => ⟨S64x1, .f32⟩
  | _ => ⟨S64x1024, .f32⟩

abbrev hbmTy0_1 (i : Nat) : BufTy := match i % 128 with
  | 0 => ⟨S_, .f32⟩
  | 1 => ⟨S64x1, .f32⟩
  | 2 => ⟨S64x1, .f32⟩
  | 3 => ⟨S64x1x1, .f32⟩
  | 4 => ⟨S64x1x257, .f32⟩
  | 5 => ⟨S64x1x257, .f32⟩
  | 6 => ⟨S64x1x257, .f32⟩
  | 7 => ⟨S_, .f32⟩
  | 8 => ⟨S64x1, .f32⟩
  | 9 => ⟨S64x1x1, .f32⟩
  | 10 => ⟨S64x1x257, .f32⟩
  | 11 => ⟨S64x1x257, .f32⟩
  | 12 => ⟨S64x1x257, .f32⟩
  | 13 => ⟨S64x257, .f32⟩
  | 14 => ⟨S64x1x1024, .f32⟩
  | 15 => ⟨S64x1024, .f32⟩
  | 16 => ⟨S64x2048, .f32⟩
  | 17 => ⟨S2048x1024, .f32⟩
  | 18 => ⟨S64x1024, .f32⟩
  | 19 => ⟨S64x1024, .f32⟩
  | _ => ⟨S64x1024, .f32⟩

abbrev hbmTy (i : Nat) : BufTy := match i / 128 with
  | 0 => hbmTy0_0 i
  | 1 => hbmTy0_1 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_c_2 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_c_3 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_cst : Ref sig .tc := ⟨.hbm, 92, rfl⟩
abbrev main_call3_v14 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_8 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_9 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_10 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_11 : Ref sig .tc := ⟨.hbm, 122, rfl⟩
abbrev main_call4_v0 : Ref sig .tc := ⟨.hbm, 123, rfl⟩
abbrev main_call4_v1 : Ref sig .tc := ⟨.hbm, 124, rfl⟩
abbrev main_v72 : Ref sig .tc := ⟨.hbm, 125, rfl⟩
abbrev main_cst_12 : Ref sig .tc := ⟨.hbm, 126, rfl⟩
abbrev main_v73 : Ref sig .tc := ⟨.hbm, 127, rfl⟩
abbrev main_cst_13 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_14 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩

abbrev nD : Nat := 1
abbrev τ : Topo := Topo.v7x

variable {F : FTy → Type} [FloatOps F]
-- ==== Proof.KernelIdeal.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Tactic
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the proof uses: the pipeline library's, beside the counters of the kernel's own transfers. -/
abbrev UU : Type := UR sig nD τ × Counters

local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The one index of a vector of one element. -/
abbrev s1zero : S1.Idx := Shape.Idx.first (by decide)

/-- A load of a whole buffer reads its contents. -/
theorem load_whole (b : Ref sig .tc) (f : b.ty.Contents (Elt F)) {off : Fin b.ty.shape.rank → ℕ} (inb : ∀ a, off a + b.ty.shape.size a ≤ b.ty.shape.size a) :
    View.readAt (Elt F) (Memref.whole b).view (Rect.unit off b.ty.shape.size inb).toLoadRect f = f :=
  View.readAt_full _ _ _

/-- A store over a whole buffer leaves what was stored. -/
theorem store_whole (b : Ref sig .tc) (f : b.ty.Contents (Elt F)) {off : Fin b.ty.shape.rank → ℕ} (inb : ∀ a, off a + b.ty.shape.size a ≤ b.ty.shape.size a)
    (w : (Rect.unit off b.ty.shape.size inb).shape.Idx → Elt F b.ty.elt) :
    (Memref.whole b).view.writes (Elt F) f [⟨Rect.unit off b.ty.shape.size inb, w⟩] = w :=
  View.read_writes_full (Val := Elt F) (Memref.whole b).view f inb w []

end Cert.KernelIdeal.Run
end
-- ==== Proof.KernelIdeal.Out.lean ====
module

public import proofs.«01_k».proof.Proof.KernelIdeal.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The last kernel's body, run: from its four staging buffers it leaves the result's at the value stored. -/
theorem outRun (c : Dev nD) (f0 : Bf (F := F) c (stage2_0 0)) (f1 : Bf (F := F) c (stage2_1 0)) (f2 : Bf (F := F) c (stage2_2 0))
    (f3 : Bf (F := F) c (stage2_3 0)) (E : Set ℕ) (Q : PUnit → sProp 𝕄) :
    iprop(pt c (stage2_0 0) f0 ∗ pt c (stage2_1 0) f1 ∗ pt c (stage2_2 0) f2 ∗ pt c (stage2_3 0) f3
      ∗ (iprop(pt c (stage2_0 0) f0 ∗ pt c (stage2_1 0) f1 ∗ pt c (stage2_2 0) f2 ∗ pt c (stage2_3 0) (k2_pay1 f2 f0 f1)) -∗ Q ⟨⟩))
      ⊢ wp frame (wpE (defs₀ (F := F)) Variants.none c none) E (bodyAt2 (F := F) t2_0) Q := by
  iintro ⟨H0, H1, H2, H3, Hk⟩
  sl_unfold [bodyAt2, cc2__out_kernel_eq_skeleton]
  sl_exec
  sl_step
  iapply Hk
  have e0 : ∀ h, View.readAt (Elt F) (stage2_0 0).view (Rect.unit ![0, 0] S64x1024.size h).toLoadRect f0 = f0 := fun h => load_whole cc2_stg0_0 f0 h
  have e1 : ∀ h, View.readAt (Elt F) (stage2_1 0).view (Rect.unit ![0, 0] S64x1024.size h).toLoadRect f1 = f1 := fun h => load_whole cc2_stg1_0 f1 h
  have e2 : ∀ h, View.readAt (Elt F) (stage2_2 0).view (Rect.unit ![0, 0] S1024x2048.size h).toLoadRect f2 = f2 := fun h => load_whole cc2_stg2_0 f2 h
  simp only [e0, e1, e2]
  have w3 : ∀ h w, (stage2_3 0).view.writes (Elt F) f3 [⟨Rect.unit ![0, 0] S64x1024.size h, w⟩] = w := fun h w => store_whole cc2_stg3_0 f3 h w
  simp only [w3]
  isplitl [H0]; · iexact H0
  isplitl [H1]; · iexact H1
  isplitl [H2]; · iexact H2
  iexact H3

end Cert.KernelIdeal.Run
end
-- ==== Proof.KernelIdeal.Region2.lean ====
module

public import proofs.«01_k».proof.Proof.KernelIdeal.Out
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
/-- The slice of a whole buffer at its full size names each element by its own index. -/
theorem emb_full (b : Ref sig .tc) {off : Fin b.ty.shape.rank → ℕ} (inb : ∀ a, off a + b.ty.shape.size a ≤ b.ty.shape.size a) (y : b.ty.shape.Idx) :
    ((View.whole b).slice (Rect.unit off b.ty.shape.size inb)).emb y = y :=
  funext fun a => Fin.ext (by
    show off a + 1 * (y a).val = (y a).val
    have := inb a; omega)

/-- What the core holds of every buffer when a region is entered. -/
abbrev Vals : Type := Dev nD → Valuation τ sig (Elt F)

/-- The scoped buffers the last region does not stage, held at something. -/
abbrev rest2 (c : Dev nD) : sProp 𝕄 := Pipeline.scopedRest (Ix := Unit) (Name := ℕ) (U := UU) (Lvl := ℕ) (Val := Elt F) spec2 c

variable (V : Vals (F := F))

/-- What the last kernel leaves in the result. -/
abbrev outV (c : Dev nD) : FVec F S64x1024 .f32 := k2_pay1 (V c main_arg4) (V c main_call0_v16) (V c main_arg0)

/-- The proof data of the last region: its arrays at `V`, each operand's buffer as fetched, the result's at the value stored. -/
def dat2 (c : Dev nD) : Dat τ (Elt F) Unit ℕ UU ℕ cfg2 c where
  A w := V c (Pipeline.arrRef spec2 w)
  after w _ := match w with
    | ⟨0, _⟩ => V c main_call0_v16
    | ⟨1, _⟩ => V c main_arg0
    | ⟨2, _⟩ => V c main_arg4
    | ⟨3, _⟩ => outV V c
  Φ _ := rest2 c
  q _ := fullShare
  owed _ := 0

theorem before2_0 (c : Dev nD) (d) : (dat2 V c).before 0 t2_0 d = V c main_call0_v16 := by
  unfold Dat.before; rw [if_pos (by decide)]
  exact View.readAt_full (Val := Elt F) (Memref.whole main_call0_v16).view _ _

theorem before2_1 (c : Dev nD) (d) : (dat2 V c).before 1 t2_0 d = V c main_arg0 := by
  unfold Dat.before; rw [if_pos (by decide)]
  exact View.readAt_full (Val := Elt F) (Memref.whole main_arg0).view _ _

theorem before2_2 (c : Dev nD) (d) : (dat2 V c).before 2 t2_0 d = V c main_arg4 := by
  unfold Dat.before; rw [if_pos (by decide)]
  exact View.readAt_full (Val := Elt F) (Memref.whole main_arg4).view _ _

theorem body2 (c : Dev nD) : BodyObligation (dat2 V c) (defs₀ (F := F)) Variants.none () Set.univ := fun t => by
  obtain rfl := fin_N2 t
  rw [bigSep_W2, bigSep_W2]
  simp only [owns_whole_eq]
  rw [show (dat2 V c).Φ t2_0.castSucc = rest2 c from rfl, show (dat2 V c).Φ t2_0.succ = rest2 c from rfl,
    show (dat2 V c).owesAt () t2_0.succ = (dat2 V c).owesAt () t2_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before2_0] at hf0
  rw [before2_1] at hf1
  rw [before2_2] at hf2
  subst hf0 hf1 hf2
  iapply (outRun c (V c main_call0_v16) (V c main_arg0) (V c main_arg4) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  iexists _; isplitr; swap; (· iexact H3); ipureintro; dsimp only [dat2]

/-- The result's array after the last region is the value stored. -/
theorem arr2_3 (c : Dev nD) : (dat2 V c).arrAt 3 cfg2.N = outV V c :=
  (dat2 V c).arrAt_eq_of_cover 3 (outV V c)
    (fun t _ => by
      obtain rfl := fin_N2 t
      exact (View.readAt_full (Val := Elt F) (Memref.whole main_v0_0).view (outV V c) _).symm)
    (fun i => ⟨t2_0, rfl, by
      have h := ((cfg2.win 3).blk t2_0).view.emb_mem_set i
      have e : ((cfg2.win 3).blk t2_0).view.emb i = i := emb_full main_v0_0 _ i
      rw [e] at h; exact h⟩)

end Cert.KernelIdeal.Run
end
-- ==== Proof.KernelIdeal.Prep.lean ====
module

public import proofs.«01_k».proof.Proof.KernelIdeal.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem prepRun (c : Dev nD) (f0 : Bf (F := F) c (stage0_0 0)) (f1 : Bf (F := F) c (stage0_1 0)) (f2 : Bf (F := F) c (stage0_2 0))
    (f3 : Bf (F := F) c (stage0_3 0)) (f4 : Bf (F := F) c (stage0_4 0)) (f5 : Bf (F := F) c (stage0_5 0)) (f6 : Bf (F := F) c (stage0_6 0))
    (f7 : Bf (F := F) c (stage0_7 0)) (f8 : Bf (F := F) c (stage0_8 0)) (f9 : Bf (F := F) c (stage0_9 0))
    (f10 : Bf (F := F) c (stage0_10 0)) (f11 : Bf (F := F) c (stage0_11 0)) (f12 : Bf (F := F) c (stage0_12 0)) (E : Set ℕ) (Q : PUnit → sProp 𝕄) :
    iprop(pt c (stage0_0 0) f0 ∗ pt c (stage0_1 0) f1 ∗ pt c (stage0_2 0) f2 ∗ pt c (stage0_3 0) f3 ∗ pt c (stage0_4 0) f4 ∗ pt c (stage0_5 0) f5
      ∗ pt c (stage0_6 0) f6 ∗ pt c (stage0_7 0) f7 ∗ pt c (stage0_8 0) f8 ∗ pt c (stage0_9 0) f9 ∗ pt c (stage0_10 0) f10 ∗ pt c (stage0_11 0) f11
      ∗ pt c (stage0_12 0) f12
      ∗ (iprop(pt c (stage0_0 0) f0 ∗ pt c (stage0_1 0) f1 ∗ pt c (stage0_2 0) f2 ∗ pt c (stage0_3 0) f3 ∗ pt c (stage0_4 0) f4 ∗ pt c (stage0_5 0) f5
          ∗ pt c (stage0_6 0) f6 ∗ pt c (stage0_7 0) (k0_pay4 f1 f2) ∗ pt c (stage0_8 0) (k0_pay5 f0 f1 f2 f3 f4 f5 (f6 s1zero))
          ∗ pt c (stage0_9 0) (k0_pay3 f0) ∗ pt c (stage0_10 0) (k0_pay6 f0 f1 f2 f3 f4 f5 (f6 s1zero))
          ∗ pt c (stage0_11 0) (k0_pay1 (k0_pay6 f0 f1 f2 f3 f4 f5 (f6 s1zero)))
          ∗ pt c (stage0_12 0) (k0_pay2 (k0_pay6 f0 f1 f2 f3 f4 f5 (f6 s1zero)))) -∗ Q ⟨⟩))
      ⊢ wp frame (wpE (defs₀ (F := F)) Variants.none c none) E (bodyAt0 (F := F) t0_0) Q := by
  iintro ⟨H0, H1, H2, H3, H4, H5, H6, H7, H8, H9, H10, H11, H12, Hk⟩
  sl_unfold [bodyAt0, cc0__prep_kernel_eq_skeleton, k0_part1_eq_skeleton]
  sl_exec
  sl_step
  iapply Hk
  have e0 : ∀ h, View.readAt (Elt F) (stage0_0 0).view (Rect.unit ![0, 0] S64x2048.size h).toLoadRect f0 = f0 := fun h => load_whole cc0_stg0_0 f0 h
  have e1 : ∀ h, View.readAt (Elt F) (stage0_1 0).view (Rect.unit ![0, 0] S64x1024.size h).toLoadRect f1 = f1 := fun h => load_whole cc0_stg1_0 f1 h
  have e2 : ∀ h, View.readAt (Elt F) (stage0_2 0).view (Rect.unit ![0, 0] S1024x1024.size h).toLoadRect f2 = f2 := fun h => load_whole cc0_stg2_0 f2 h
  have e3 : ∀ h, View.readAt (Elt F) (stage0_3 0).view (Rect.unit ![0, 0] S512x1024.size h).toLoadRect f3 = f3 := fun h => load_whole cc0_stg3_0 f3 h
  have e4 : ∀ h, View.readAt (Elt F) (stage0_4 0).view (Rect.unit ![0, 0] S1x512.size h).toLoadRect f4 = f4 := fun h => load_whole cc0_stg4_0 f4 h
  have e5 : ∀ h, View.readAt (Elt F) (stage0_5 0).view (Rect.unit ![0, 0] S128x512.size h).toLoadRect f5 = f5 := fun h => load_whole cc0_stg5_0 f5 h
  have e6 : prepRun.sl.r c f6 = f6 s1zero := congrFun (load_whole cc0_stg6_0 f6 inb_S1_S1_0) _
  have e7 : prepRun.sl.r_1 c f0 f1 f2 f3 f4 f5 f6 = k0_pay6 f0 f1 f2 f3 f4 f5 (f6 s1zero) := by
    unfold prepRun.sl.r_1
    rw [e6]
    simp only [e0, e1, e2, e3, e4, e5]
  simp only [e6, e7, e0, e1, e2, e3, e4, e5]
  have w7 : ∀ h w, (stage0_7 0).view.writes (Elt F) f7 [⟨Rect.unit ![0, 0] S64x1024.size h, w⟩] = w := fun h w => store_whole cc0_stg7_0 f7 h w
  have w8 : ∀ h w, (stage0_8 0).view.writes (Elt F) f8 [⟨Rect.unit ![0, 0] S64x1.size h, w⟩] = w := fun h w => store_whole cc0_stg8_0 f8 h w
  have w9 : ∀ h w, (stage0_9 0).view.writes (Elt F) f9 [⟨Rect.unit ![0, 0] S64x1.size h, w⟩] = w := fun h w => store_whole cc0_stg9_0 f9 h w
  have w10 : ∀ h w, (stage0_10 0).view.writes (Elt F) f10 [⟨Rect.unit ![0, 0] S64x1.size h, w⟩] = w := fun h w => store_whole cc0_stg10_0 f10 h w
  have w11 : ∀ h w, (stage0_11 0).view.writes (Elt F) f11 [⟨Rect.unit ![0, 0] S64x1.size h, w⟩] = w := fun h w => store_whole cc0_stg11_0 f11 h w
  have w12 : ∀ h w, (stage0_12 0).view.writes (Elt F) f12 [⟨Rect.unit ![0, 0] S64x1.size h, w⟩] = w := fun h w => store_whole cc0_stg12_0 f12 h w
  simp only [w7, w8, w9, w10, w11, w12]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Run
end
-- ==== Proof.KernelIdeal.Region0.lean ====
module

public import proofs.«01_k».proof.Proof.KernelIdeal.Region2
public import proofs.«01_k».proof.Proof.KernelIdeal.Prep

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
/-- The scoped buffers the first region does not stage, held at something. -/
abbrev rest0 (c : Dev nD) : sProp 𝕄 := Pipeline.scopedRest (Ix := Unit) (Name := ℕ) (U := UU) (Lvl := ℕ) (Val := Elt F) spec0 c

variable (V : Vals (F := F))

/-- The transformed input. -/
def xV (c : Dev nD) : FVec F S64x1024 .f32 := k0_pay4 (V c main_arg0) (V c main_arg3)
/-- Every window's first column. -/
def wsV (c : Dev nD) : IVec S64x1 32 :=
  k0_pay6 (V c main_call0_v2) (V c main_arg0) (V c main_arg3) (V c main_arg5) (V c main_call0_v7) (V c main_call0_v6) ((V c main_arg8 : FVec F S1 .f32) s1zero)
/-- Every centre. -/
def pV (c : Dev nD) : FVec F S64x1 .f32 :=
  k0_pay5 (V c main_call0_v2) (V c main_arg0) (V c main_arg3) (V c main_arg5) (V c main_call0_v7) (V c main_call0_v6) ((V c main_arg8 : FVec F S1 .f32) s1zero)
/-- Every length. -/
def lenV (c : Dev nD) : FVec F S64x1 .f32 := k0_pay3 (V c main_call0_v2)
/-- One past every window's last column. -/
def weV (c : Dev nD) : IVec S64x1 32 := k0_pay1 (wsV V c)
/-- Where every window is read from. -/
def csV (c : Dev nD) : IVec S64x1 32 := k0_pay2 (wsV V c)

/-- The proof data of the first region: its arrays at `V`, each operand's buffer as fetched, each result's at the value stored. -/
def dat0 (c : Dev nD) : Dat τ (Elt F) Unit ℕ UU ℕ cfg0 c where
  A w := V c (Pipeline.arrRef spec0 w)
  after w _ := match w with
    | ⟨0, _⟩ => V c main_call0_v2
    | ⟨1, _⟩ => V c main_arg0
    | ⟨2, _⟩ => V c main_arg3
    | ⟨3, _⟩ => V c main_arg5
    | ⟨4, _⟩ => V c main_call0_v7
    | ⟨5, _⟩ => V c main_call0_v6
    | ⟨6, _⟩ => V c main_arg8
    | ⟨7, _⟩ => xV V c
    | ⟨8, _⟩ => pV V c
    | ⟨9, _⟩ => lenV V c
    | ⟨10, _⟩ => wsV V c
    | ⟨11, _⟩ => weV V c
    | ⟨12, _⟩ => csV V c
  Φ _ := rest0 c
  q _ := fullShare
  owed _ := 0

theorem before0_0 (c : Dev nD) (d) : (dat0 V c).before 0 t0_0 d = V c main_call0_v2 := by
  unfold Dat.before; rw [if_pos (by decide)]
  exact View.readAt_full (Val := Elt F) (Memref.whole main_call0_v2).view _ _

theorem before0_1 (c : Dev nD) (d) : (dat0 V c).before 1 t0_0 d = V c main_arg0 := by
  unfold Dat.before; rw [if_pos (by decide)]
  exact View.readAt_full (Val := Elt F) (Memref.whole main_arg0).view _ _

theorem before0_2 (c : Dev nD) (d) : (dat0 V c).before 2 t0_0 d = V c main_arg3 := by
  unfold Dat.before; rw [if_pos (by decide)]
  exact View.readAt_full (Val := Elt F) (Memref.whole main_arg3).view _ _

theorem before0_3 (c : Dev nD) (d) : (dat0 V c).before 3 t0_0 d = V c main_arg5 := by
  unfold Dat.before; rw [if_pos (by decide)]
  exact View.readAt_full (Val := Elt F) (Memref.whole main_arg5).view _ _

theorem before0_4 (c : Dev nD) (d) : (dat0 V c).before 4 t0_0 d = V c main_call0_v7 := by
  unfold Dat.before; rw [if_pos (by decide)]
  exact View.readAt_full (Val := Elt F) (Memref.whole main_call0_v7).view _ _

theorem before0_5 (c : Dev nD) (d) : (dat0 V c).before 5 t0_0 d = V c main_call0_v6 := by
  unfold Dat.before; rw [if_pos (by decide)]
  exact View.readAt_full (Val := Elt F) (Memref.whole main_call0_v6).view _ _

theorem before0_6 (c : Dev nD) (d) : (dat0 V c).before 6 t0_0 d = V c main_arg8 := by
  unfold Dat.before; rw [if_pos (by decide)]
  exact View.readAt_full (Val := Elt F) (Memref.whole main_arg8).view _ _

theorem body0 (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = rest0 c from rfl, show (dat0 V c).Φ t0_0.succ = rest0 c from rfl,
    show (dat0 V c).owesAt () t0_0.succ = (dat0 V c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩
  rw [before0_0] at hf0
  rw [before0_1] at hf1
  rw [before0_2] at hf2
  rw [before0_3] at hf3
  rw [before0_4] at hf4
  rw [before0_5] at hf5
  rw [before0_6] at hf6
  subst hf0 hf1 hf2 hf3 hf4 hf5 hf6
  iapply (prepRun c (V c main_call0_v2) (V c main_arg0) (V c main_arg3) (V c main_arg5) (V c main_call0_v7) (V c main_call0_v6) (V c main_arg8) f7 f8 f9 f10 f11 f12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexists _; isplitr; swap; (· iexact H0); ipureintro; first | (dsimp only [dat0]; done) | rfl
  isplitl [H1]; · iexists _; isplitr; swap; (· iexact H1); ipureintro; first | (dsimp only [dat0]; done) | rfl
  isplitl [H2]; · iexists _; isplitr; swap; (· iexact H2); ipureintro; first | (dsimp only [dat0]; done) | rfl
  isplitl [H3]; · iexists _; isplitr; swap; (· iexact H3); ipureintro; first | (dsimp only [dat0]; done) | rfl
  isplitl [H4]; · iexists _; isplitr; swap; (· iexact H4); ipureintro; first | (dsimp only [dat0]; done) | rfl
  isplitl [H5]; · iexists _; isplitr; swap; (· iexact H5); ipureintro; first | (dsimp only [dat0]; done) | rfl
  isplitl [H6]; · iexists _; isplitr; swap; (· iexact H6); ipureintro; first | (dsimp only [dat0]; done) | rfl
  isplitl [H7]; · iexists _; isplitr; swap; (· iexact H7); ipureintro; first | (dsimp only [dat0]; done) | rfl
  isplitl [H8]; · iexists _; isplitr; swap; (· iexact H8); ipureintro; first | (dsimp only [dat0]; done) | rfl
  isplitl [H9]; · iexists _; isplitr; swap; (· iexact H9); ipureintro; first | (dsimp only [dat0]; done) | rfl
  isplitl [H10]; · iexists _; isplitr; swap; (· iexact H10); ipureintro; first | (dsimp only [dat0]; done) | rfl
  isplitl [H11]; · iexists _; isplitr; swap; (· iexact H11); ipureintro; first | (dsimp only [dat0]; done) | rfl
  iexists _; isplitr; swap; (· iexact H12); ipureintro; first | (dsimp only [dat0]; done) | rfl

theorem arr0_7 (c : Dev nD) : (dat0 V c).arrAt 7 cfg0.N = xV V c :=
  (dat0 V c).arrAt_eq_of_cover 7 (xV V c)
    (fun t _ => by
      obtain rfl := fin_N0 t
      exact (View.readAt_full (Val := Elt F) (Memref.whole main_call0_v8_0).view (xV V c) _).symm)
    (fun i => ⟨t0_0, rfl, by
      have h := ((cfg0.win 7).blk t0_0).view.emb_mem_set i
      have e : ((cfg0.win 7).blk t0_0).view.emb i = i := emb_full main_call0_v8_0 _ i
      rw [e] at h; exact h⟩)

theorem arr0_8 (c : Dev nD) : (dat0 V c).arrAt 8 cfg0.N = pV V c :=
  (dat0 V c).arrAt_eq_of_cover 8 (pV V c)
    (fun t _ => by
      obtain rfl := fin_N0 t
      exact (View.readAt_full (Val := Elt F) (Memref.whole main_call0_v8_1).view (pV V c) _).symm)
    (fun i => ⟨t0_0, rfl, by
      have h := ((cfg0.win 8).blk t0_0).view.emb_mem_set i
      have e : ((cfg0.win 8).blk t0_0).view.emb i = i := emb_full main_call0_v8_1 _ i
      rw [e] at h; exact h⟩)

theorem arr0_9 (c : Dev nD) : (dat0 V c).arrAt 9 cfg0.N = lenV V c :=
  (dat0 V c).arrAt_eq_of_cover 9 (lenV V c)
    (fun t _ => by
      obtain rfl := fin_N0 t
      exact (View.readAt_full (Val := Elt F) (Memref.whole main_call0_v8_2).view (lenV V c) _).symm)
    (fun i => ⟨t0_0, rfl, by
      have h := ((cfg0.win 9).blk t0_0).view.emb_mem_set i
      have e : ((cfg0.win 9).blk t0_0).view.emb i = i := emb_full main_call0_v8_2 _ i
      rw [e] at h; exact h⟩)

theorem arr0_10 (c : Dev nD) : (dat0 V c).arrAt 10 cfg0.N = wsV V c :=
  (dat0 V c).arrAt_eq_of_cover 10 (wsV V c)
    (fun t _ => by
      obtain rfl := fin_N0 t
      exact (View.readAt_full (Val := Elt F) (Memref.whole main_v0_2).view (wsV V c) _).symm)
    (fun i => ⟨t0_0, rfl, by
      have h := ((cfg0.win 10).blk t0_0).view.emb_mem_set i
      have e : ((cfg0.win 10).blk t0_0).view.emb i = i := emb_full main_v0_2 _ i
      rw [e] at h; exact h⟩)

theorem arr0_11 (c : Dev nD) : (dat0 V c).arrAt 11 cfg0.N = weV V c :=
  (dat0 V c).arrAt_eq_of_cover 11 (weV V c)
    (fun t _ => by
      obtain rfl := fin_N0 t
      exact (View.readAt_full (Val := Elt F) (Memref.whole main_v0_3).view (weV V c) _).symm)
    (fun i => ⟨t0_0, rfl, by
      have h := ((cfg0.win 11).blk t0_0).view.emb_mem_set i
      have e : ((cfg0.win 11).blk t0_0).view.emb i = i := emb_full main_v0_3 _ i
      rw [e] at h; exact h⟩)

theorem arr0_12 (c : Dev nD) : (dat0 V c).arrAt 12 cfg0.N = csV V c :=
  (dat0 V c).arrAt_eq_of_cover 12 (csV V c)
    (fun t _ => by
      obtain rfl := fin_N0 t
      exact (View.readAt_full (Val := Elt F) (Memref.whole main_call0_v8_5).view (csV V c) _).symm)
    (fun i => ⟨t0_0, rfl, by
      have h := ((cfg0.win 12).blk t0_0).view.emb_mem_set i
      have e : ((cfg0.win 12).blk t0_0).view.emb i = i := emb_full main_call0_v8_5 _ i
      rw [e] at h; exact h⟩)

end Cert.KernelIdeal.Run
end
-- ==== Proof.KernelIdeal.Ring.lean ====
module

public import proofs.«01_k».proof.Proof.KernelIdeal.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem slot_inb (n : ℕ) : ∀ a, (![n % 24, 0, 0, 0] : Fin 4 → ℕ) a + S1x257x1x1024.size a ≤ S24x257x1x1024.size a := by
  have := Nat.mod_lt n (show 0 < 24 by decide)
  intro a; fin_cases a <;> simp [S1x257x1x1024, S24x257x1x1024] <;> omega

theorem sem_inb (n : ℕ) : ∀ a, (![n % 24] : Fin 1 → ℕ) a + S1.size a ≤ S24.size a := by
  have := Nat.mod_lt n (show 0 < 24 by decide)
  intro a; fin_cases a; simp [S1, S24]; omega

theorem home_inb (v n : ℕ) : ∀ a, (![min v 1791, n % 64, 0] : Fin 3 → ℕ) a + S257x1x1024.size a ≤ S2048x64x1024.size a := by
  have := Nat.mod_lt n (show 0 < 64 by decide)
  intro a; fin_cases a <;> simp [S257x1x1024, S2048x64x1024] <;> omega

/-- The slot of the ring that window `n` is copied to. -/
abbrev slotM (n : ℕ) : Memref sig .tc .vmem S257x1x1024 .f32 :=
  ((Memref.whole cc1_scratch0).slice (Rect.unit (s := S24x257x1x1024) ![n % 24, 0, 0, 0] S1x257x1x1024.size (slot_inb n)) (fun _ => rfl)).squeeze
    S257x1x1024 squeezes_S1x257x1x1024_S257x1x1024

/-- The completion cell of window `n`'s copy. -/
abbrev semM (n : ℕ) : DmaSem sig :=
  ((cc1_scratch1.slice (Rect.unit (s := S24) ![n % 24] S1.size (sem_inb n))).squeeze S_ squeezes_S1_S_).sem

/-- The index of window `n` among the 64. -/
abbrev widx (n : ℕ) : S64.Idx := Fin.cons ⟨n % 64, Nat.mod_lt n (show 0 < 64 by decide)⟩ (fun a => a.elim0)

/-- Where window `n` starts, by the table of starts. -/
abbrev wstart (cs : S64.Idx → BitVec 32) (n : ℕ) : ℕ := min (cs (widx n)).toNat 1791

/-- Window `n` of the hidden states: 257 rows of one batch entry. -/
abbrev homeM (cs : S64.Idx → BitVec 32) (n : ℕ) : Memref sig .tc .hbm S257x1x1024 .f32 :=
  (Memref.whole main_arg1).slice (Rect.unit (s := S2048x64x1024) ![wstart cs n, n % 64, 0] S257x1x1024.size (home_inb _ n)) (fun _ => rfl)

local notation "EC" => (countersEmb (nD := nD) (τ := τ) (sig := sig) (Ix := Unit) (Val := Elt F) (U := UU) (Lvl := ℕ))

/-! ## One copy, of any window to any slot -/

section Copy
variable (c : Dev nD) (p : PosShare TreeShare) (V : Bf (F := F) c (Memref.whole main_arg1))
  (dst : Memref sig .tc .vmem S257x1x1024 .f32) (sm : DmaSem sig) (src : Memref sig .tc .hbm S257x1x1024 .f32)
  (fs : Bf (F := F) c src)

/-- A slot that no copy is on its way to: its cell at zero and its contents whatever they are. -/
def idle : sProp 𝕄 :=
  iprop(semVal ((c : Thread nD τ), .dma sm) 0 ∗ ∃ f, dst.view.loc (c : Thread nD τ) ↦[dst.view.set]{fullShare} f)

/-- What a copy delivers: the slot holding what the source reads, and the share of the source back. -/
def landed : sProp 𝕄 :=
  iprop((∃ f, ⌜dst.view.read (Elt F) f = src.view.read (Elt F) fs⌝ ∗ (dst.view.loc (c : Thread nD τ) ↦[dst.view.set]{fullShare} f))
    ∗ (src.view.loc (c : Thread nD τ) ↦[src.view.set]{p} fs))

/-- A slot that a copy is on its way to. -/
def flying : sProp 𝕄 :=
  Transfers.Flight EC (c : Thread nD τ) (.dma sm) () dst.view.dmaCredit (landed c p dst src fs)

/-- Starting a copy takes an idle slot and a share of the source, and leaves the copy on its way. -/
theorem wp_start_any {α : Type} {Q : α → sProp 𝕄} {hs hd hsem} {k : PUnit → Prog (TpuEff nD τ sig (Elt F) Λ₀ .tc) α} :
    iprop(idle c dst sm ∗ (src.view.loc (c : Thread nD τ) ↦[src.view.set]{p} fs))
      ⊢ iprop((flying c p dst sm src fs -∗ wp frame (wpE (defs₀ (F := F)) Variants.none c none) Set.univ (k ⟨⟩) Q)
        -∗ wp frame (wpE (defs₀ (F := F)) Variants.none c none) Set.univ
          (.op (.enqueueDmaAs src (.here dst) ReadAs.same (.dma sm) hs hd hsem) k) Q) := by
  unfold idle flying
  iintro ⟨⟨HV, ⟨%f, HD⟩⟩, HS⟩ Hk
  iapply (Transfers.wp_dmaLocal EC Variants.none (c : Thread nD τ) none () dst.view.dmaCredit rfl
    (View.dmaCredit_pos _ (by decide +kernel)) (subset_refl _)) $$ [HS HD HV]
  · isplitl [HS]; · iexact HS
    isplitl [HD]; · iexact HD
    iexact HV
  · iintro HF
    iapply Hk
    iapply (Transfers.Flight_mono EC ?_) $$ HF
    unfold landed
    iintro ⟨HD, HS⟩
    isplitl [HD]
    · iexists _
      isplitr
      swap; · iexact HD
      ipureintro
      exact View.read_write_univ _ _
    · iexact HS

/-- Waiting for a copy on its way hands over what it delivers, the slot's cell back at zero. -/
theorem wp_wait_any {W : Waits sig Unit} {srcw : Memref sig .tc .hbm S257x1x1024 .f32} {α : Type} {Q : α → sProp 𝕄} {hsrc hdst} {k : PUnit → Prog (TpuEff nD τ sig (Elt F) Λ₀ .tc) α} :
    iprop(flying c p dst sm src fs ∗ owes (c : Thread nD τ) 0 W)
      ⊢ iprop((iprop(landed c p dst src fs ∗ semVal ((c : Thread nD τ), .dma sm) 0 ∗ ∃ W', owes (c : Thread nD τ) 0 W')
            -∗ wp frame (wpE (defs₀ (F := F)) Variants.none c none) Set.univ (k ⟨⟩) Q)
        -∗ wp frame (wpE (defs₀ (F := F)) Variants.none c none) Set.univ (.op (.waitDma2 sm srcw dst hsrc hdst) k) Q) := by
  unfold flying
  iintro ⟨HF, Ho⟩ Hk
  iapply (Transfers.wp_waitLocalO EC Variants.none (c : Thread nD τ) none () rfl) $$ [HF Ho]
  · isplitl [HF]; · iexact HF
    isplitl [Ho]; · iexact Ho
    rw [MayWait_zero]; iempintro
  · iintro ⟨HD, HV, Ho⟩
    iapply Hk
    isplitl [HD]; · iexact HD
    isplitl [HV]; · iexact HV
    iexists _; iexact Ho

end Copy

/-! ## The ring -/

section Windows
variable (c : Dev nD) (q : ℕ → PosShare TreeShare) (cs : S64.Idx → BitVec 32) (V : Bf (F := F) c (Memref.whole main_arg1))

/-- Slot `n % 24`, idle, with its share of the hidden states. -/
def free (n : ℕ) : sProp 𝕄 :=
  iprop(idle c (slotM n) (semM n) ∗ ((Memref.whole main_arg1).view.loc (c : Thread nD τ) ↦{q (n % 24)} V))

/-- Slot `n % 24` with window `n` on its way to it. -/
def busy (n : ℕ) : sProp 𝕄 :=
  iprop(flying c (q (n % 24)) (slotM n) (semM n) (homeM cs n) V
    ∗ ((Memref.whole main_arg1).view.loc (c : Thread nD τ) ↦[Finset.univ \ (homeM cs n).view.set]{q (n % 24)} V))

/-- Slot `n % 24` holding window `n`, nothing on its way to it. -/
def held (n : ℕ) : sProp 𝕄 :=
  iprop((∃ f, ⌜(slotM n).view.read (Elt F) f = (homeM cs n).view.read (Elt F) V⌝ ∗ ((slotM n).view.loc (c : Thread nD τ) ↦[(slotM n).view.set]{fullShare} f))
    ∗ semVal ((c : Thread nD τ), .dma (semM n)) 0 ∗ ((Memref.whole main_arg1).view.loc (c : Thread nD τ) ↦{q (n % 24)} V))

theorem wp_start (n : ℕ) {o2 : Fin 1 → ℕ} (e2 : o2 = ![n % 24]) {i2} {o3 : Fin 4 → ℕ} (e3 : o3 = ![n % 24, 0, 0, 0]) {i3}
    {o4 : Fin 3 → ℕ} (e4 : o4 = ![wstart cs n, n % 64, 0]) {i4}
    {α : Type} {Q : α → sProp 𝕄} {hs hd hsem} {k : PUnit → Prog (TpuEff nD τ sig (Elt F) Λ₀ .tc) α} :
    free c q V n ⊢ iprop((busy c q cs V n -∗ wp frame (wpE (defs₀ (F := F)) Variants.none c none) Set.univ (k ⟨⟩) Q)
      -∗ wp frame (wpE (defs₀ (F := F)) Variants.none c none) Set.univ
        (.op (.enqueueDmaAs ((Memref.whole main_arg1).slice (Rect.unit (s := S2048x64x1024) o4 S257x1x1024.size i4) (fun _ => rfl))
          (.here (((Memref.whole cc1_scratch0).slice (Rect.unit (s := S24x257x1x1024) o3 S1x257x1x1024.size i3) (fun _ => rfl)).squeeze
            S257x1x1024 squeezes_S1x257x1x1024_S257x1x1024)) ReadAs.same
          (.dma ((cc1_scratch1.slice (Rect.unit (s := S24) o2 S1.size i2)).squeeze S_ squeezes_S1_S_).sem) hs hd hsem) k) Q) := by
  subst e2 e3 e4
  unfold free busy
  iintro ⟨HI, HS⟩ Hk
  ihave ⟨HA, HB⟩ := (pointsTo_split_subset (I := (homeM cs n).view.set) (Finset.subset_univ _)).1 $$ HS
  iapply (wp_start_any c (q (n % 24)) (slotM n) (semM n) (homeM cs n) V) $$ [HI HA]
  · isplitl [HI]; · iexact HI
    iexact HA
  · iintro HF
    iapply Hk
    isplitl [HF]; · iexact HF
    iexact HB

theorem wp_wait (n : ℕ) {W : Waits sig Unit} {o2 : Fin 1 → ℕ} (e2 : o2 = ![n % 24]) {i2} {o3 : Fin 4 → ℕ} (e3 : o3 = ![n % 24, 0, 0, 0]) {i3}
    {srcw : Memref sig .tc .hbm S257x1x1024 .f32}
    {α : Type} {Q : α → sProp 𝕄} {hs hd} {k : PUnit → Prog (TpuEff nD τ sig (Elt F) Λ₀ .tc) α} :
    iprop(busy c q cs V n ∗ owes (c : Thread nD τ) 0 W) ⊢ iprop((iprop(held c q cs V n ∗ ∃ W', owes (c : Thread nD τ) 0 W')
          -∗ wp frame (wpE (defs₀ (F := F)) Variants.none c none) Set.univ (k ⟨⟩) Q)
      -∗ wp frame (wpE (defs₀ (F := F)) Variants.none c none) Set.univ
        (.op (.waitDma2 ((cc1_scratch1.slice (Rect.unit (s := S24) o2 S1.size i2)).squeeze S_ squeezes_S1_S_).sem srcw
          (((Memref.whole cc1_scratch0).slice (Rect.unit (s := S24x257x1x1024) o3 S1x257x1x1024.size i3) (fun _ => rfl)).squeeze
            S257x1x1024 squeezes_S1x257x1x1024_S257x1x1024) hs hd) k) Q) := by
  subst e2 e3
  unfold held busy
  iintro ⟨⟨HF, HB⟩, Ho⟩ Hk
  iapply (wp_wait_any c (q (n % 24)) (slotM n) (semM n) (homeM cs n) V) $$ [HF Ho]
  · isplitl [HF]; · iexact HF
    iexact Ho
  · unfold landed
    iintro ⟨⟨HD, HA⟩, HV, Ho⟩
    iapply Hk
    isplitr [Ho]
    · isplitl [HD]; · iexact HD
      isplitl [HV]; · iexact HV
      iapply (pointsTo_split_subset (I := (homeM cs n).view.set) (Finset.subset_univ _)).2
      isplitl [HA]; · iexact HA
      iexact HB
    · iexact Ho

end Windows

end Cert.KernelIdeal.Run
end
-- ==== Proof.KernelIdeal.Words.lean ====
module

public import proofs.«01_k».proof.Proof.KernelIdeal.Ring

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "EC" => (countersEmb (nD := nD) (τ := τ) (sig := sig) (Ix := Unit) (Val := Elt F) (U := UU) (Lvl := ℕ))

/-- A word of the table of starts, loaded. -/
theorem load_start (c : Dev nD) (f0 : Bf (F := F) c (stage1_0 0)) {n : ℕ} (hn : n < 64) {o : Fin 1 → ℕ} (e : o = ![n]) {inb} {h} :
    View.readAt (Elt F) (stage1_0 0).view (Rect.unit (s := S64) o S1.size inb).toLoadRect f0 (Shape.Idx.first h) = f0 (widx n) := by
  subst e
  refine congrArg f0 (funext fun a => Fin.ext ?_)
  fin_cases a
  exact (Nat.mod_eq_of_lt hn).symm

theorem inb_of {o : Fin 3 → ℕ} {v : BitVec 32} {n : ℕ} (e : o = ![v.toNat, n, 0]) (hv : v.toNat ≤ 1791) (hn : n < 64) :
    ∀ a, o a + S257x1x1024.size a ≤ S2048x64x1024.size a := by
  subst e
  intro a; fin_cases a <;> simp [S257x1x1024, S2048x64x1024] <;> omega

theorem home_eq {cs : S64.Idx → BitVec 32} {o : Fin 3 → ℕ} {v : BitVec 32} {n : ℕ} (e : o = ![v.toNat, n, 0]) (ev : v = cs (widx n))
    (hcs : ∀ x, (cs x).toNat ≤ 1791) (hn : n < 64) : o = ![wstart cs n, n % 64, 0] := by
  rw [e, ev, Nat.mod_eq_of_lt hn, wstart, Nat.min_eq_left (hcs _)]

theorem off20_eq (i : grid1.Coords) (v : BitVec 32) : k1_off20 i v = ![v.toNat, 8 * (i 0).val + 16, 0] := by
  have e : ∀ i : grid1.Coords, k1_off20 i 0#32 1 = 8 * (i 0).val + 16 := by decide +kernel
  exact congrArg (fun x => ![v.toNat, x, 0]) (e i)

theorem off24_eq (i : grid1.Coords) (v : BitVec 32) : k1_off24 i v = ![v.toNat, 8 * (i 0).val + 17, 0] := by
  have e : ∀ i : grid1.Coords, k1_off24 i 0#32 1 = 8 * (i 0).val + 17 := by decide +kernel
  exact congrArg (fun x => ![v.toNat, x, 0]) (e i)

theorem off28_eq (i : grid1.Coords) (v : BitVec 32) : k1_off28 i v = ![v.toNat, 8 * (i 0).val + 18, 0] := by
  have e : ∀ i : grid1.Coords, k1_off28 i 0#32 1 = 8 * (i 0).val + 18 := by decide +kernel
  exact congrArg (fun x => ![v.toNat, x, 0]) (e i)

theorem off32_eq (i : grid1.Coords) (v : BitVec 32) : k1_off32 i v = ![v.toNat, 8 * (i 0).val + 19, 0] := by
  have e : ∀ i : grid1.Coords, k1_off32 i 0#32 1 = 8 * (i 0).val + 19 := by decide +kernel
  exact congrArg (fun x => ![v.toNat, x, 0]) (e i)

theorem off36_eq (i : grid1.Coords) (v : BitVec 32) : k1_off36 i v = ![v.toNat, 8 * (i 0).val + 20, 0] := by
  have e : ∀ i : grid1.Coords, k1_off36 i 0#32 1 = 8 * (i 0).val + 20 := by decide +kernel
  exact congrArg (fun x => ![v.toNat, x, 0]) (e i)

theorem off40_eq (i : grid1.Coords) (v : BitVec 32) : k1_off40 i v = ![v.toNat, 8 * (i 0).val + 21, 0] := by
  have e : ∀ i : grid1.Coords, k1_off40 i 0#32 1 = 8 * (i 0).val + 21 := by decide +kernel
  exact congrArg (fun x => ![v.toNat, x, 0]) (e i)

theorem off44_eq (i : grid1.Coords) (v : BitVec 32) : k1_off44 i v = ![v.toNat, 8 * (i 0).val + 22, 0] := by
  have e : ∀ i : grid1.Coords, k1_off44 i 0#32 1 = 8 * (i 0).val + 22 := by decide +kernel
  exact congrArg (fun x => ![v.toNat, x, 0]) (e i)

theorem off48_eq (i : grid1.Coords) (v : BitVec 32) : k1_off48 i v = ![v.toNat, 8 * (i 0).val + 23, 0] := by
  have e : ∀ i : grid1.Coords, k1_off48 i 0#32 1 = 8 * (i 0).val + 23 := by decide +kernel
  exact congrArg (fun x => ![v.toNat, x, 0]) (e i)

theorem cond2_iff (i : grid1.Coords) : k1_cond2 i = 1#1 ↔ (i 0).val < 6 := by
  revert i; decide +kernel

theorem cond3_iff (i : grid1.Coords) : k1_cond3 i = 1#1 ↔ (i 0).val < 6 := by
  revert i; decide +kernel

theorem cond4_iff (i : grid1.Coords) : k1_cond4 i = 1#1 ↔ (i 0).val < 6 := by
  revert i; decide +kernel

theorem cond5_iff (i : grid1.Coords) : k1_cond5 i = 1#1 ↔ (i 0).val < 6 := by
  revert i; decide +kernel

theorem cond6_iff (i : grid1.Coords) : k1_cond6 i = 1#1 ↔ (i 0).val < 6 := by
  revert i; decide +kernel

theorem cond7_iff (i : grid1.Coords) : k1_cond7 i = 1#1 ↔ (i 0).val < 6 := by
  revert i; decide +kernel

theorem cond8_iff (i : grid1.Coords) : k1_cond8 i = 1#1 ↔ (i 0).val < 6 := by
  revert i; decide +kernel

theorem cond9_iff (i : grid1.Coords) : k1_cond9 i = 1#1 ↔ (i 0).val < 6 := by
  revert i; decide +kernel

theorem cond1_iff (i : grid1.Coords) : k1_cond1 i = 1#1 ↔ (i 0).val = 0 := by
  revert i; decide +kernel

theorem off52_eq (i : grid1.Coords) (v : BitVec 32) : k1_off52 i v = ![v.toNat, 8 * (i 0).val + 0, 0] := by
  have e : ∀ i : grid1.Coords, k1_off52 i 0#32 1 = 8 * (i 0).val + 0 := by decide +kernel
  exact congrArg (fun x => ![v.toNat, x, 0]) (e i)

theorem off56_eq (i : grid1.Coords) (v : BitVec 32) : k1_off56 i v = ![v.toNat, 8 * (i 0).val + 1, 0] := by
  have e : ∀ i : grid1.Coords, k1_off56 i 0#32 1 = 8 * (i 0).val + 1 := by decide +kernel
  exact congrArg (fun x => ![v.toNat, x, 0]) (e i)

theorem off60_eq (i : grid1.Coords) (v : BitVec 32) : k1_off60 i v = ![v.toNat, 8 * (i 0).val + 2, 0] := by
  have e : ∀ i : grid1.Coords, k1_off60 i 0#32 1 = 8 * (i 0).val + 2 := by decide +kernel
  exact congrArg (fun x => ![v.toNat, x, 0]) (e i)

theorem off64_eq (i : grid1.Coords) (v : BitVec 32) : k1_off64 i v = ![v.toNat, 8 * (i 0).val + 3, 0] := by
  have e : ∀ i : grid1.Coords, k1_off64 i 0#32 1 = 8 * (i 0).val + 3 := by decide +kernel
  exact congrArg (fun x => ![v.toNat, x, 0]) (e i)

theorem off68_eq (i : grid1.Coords) (v : BitVec 32) : k1_off68 i v = ![v.toNat, 8 * (i 0).val + 4, 0] := by
  have e : ∀ i : grid1.Coords, k1_off68 i 0#32 1 = 8 * (i 0).val + 4 := by decide +kernel
  exact congrArg (fun x => ![v.toNat, x, 0]) (e i)

theorem off72_eq (i : grid1.Coords) (v : BitVec 32) : k1_off72 i v = ![v.toNat, 8 * (i 0).val + 5, 0] := by
  have e : ∀ i : grid1.Coords, k1_off72 i 0#32 1 = 8 * (i 0).val + 5 := by decide +kernel
  exact congrArg (fun x => ![v.toNat, x, 0]) (e i)

theorem off76_eq (i : grid1.Coords) (v : BitVec 32) : k1_off76 i v = ![v.toNat, 8 * (i 0).val + 6, 0] := by
  have e : ∀ i : grid1.Coords, k1_off76 i 0#32 1 = 8 * (i 0).val + 6 := by decide +kernel
  exact congrArg (fun x => ![v.toNat, x, 0]) (e i)

theorem off80_eq (i : grid1.Coords) (v : BitVec 32) : k1_off80 i v = ![v.toNat, 8 * (i 0).val + 7, 0] := by
  have e : ∀ i : grid1.Coords, k1_off80 i 0#32 1 = 8 * (i 0).val + 7 := by decide +kernel
  exact congrArg (fun x => ![v.toNat, x, 0]) (e i)

theorem start_le {cs : S64.Idx → BitVec 32} {v : BitVec 32} {n : ℕ} (ev : v = cs (widx n)) (hcs : ∀ x, (cs x).toNat ≤ 1791) : v.toNat ≤ 1791 :=
  ev ▸ hcs _

/-- Window `n` of the 64 is on its way to its slot; past the 64 the slot is idle. -/
def st (c : Dev nD) (q : ℕ → PosShare TreeShare) (cs : S64.Idx → BitVec 32) (V : Bf (F := F) c (Memref.whole main_arg1)) (n : ℕ) : sProp 𝕄 :=
  if n < 64 then busy c q cs V n else free c q V n

theorem st_of_lt {c : Dev nD} {q : ℕ → PosShare TreeShare} {cs : S64.Idx → BitVec 32} {V : Bf (F := F) c (Memref.whole main_arg1)} {n : ℕ} (h : n < 64) :
    (st c q cs V n : sProp 𝕄) = busy c q cs V n := if_pos h

theorem st_of_ge {c : Dev nD} {q : ℕ → PosShare TreeShare} {cs : S64.Idx → BitVec 32} {V : Bf (F := F) c (Memref.whole main_arg1)} {n : ℕ} (h : ¬ n < 64) :
    (st c q cs V n : sProp 𝕄) = free c q V n := if_neg h

/-- Eight of a kind. -/
def oct (P : ℕ → sProp 𝕄) : sProp 𝕄 := iprop(P 0 ∗ P 1 ∗ P 2 ∗ P 3 ∗ P 4 ∗ P 5 ∗ P 6 ∗ P 7)

theorem oct_split (P : ℕ → sProp 𝕄) : (oct P : sProp 𝕄) ⊢ iprop(P 0 ∗ P 1 ∗ P 2 ∗ P 3 ∗ P 4 ∗ P 5 ∗ P 6 ∗ P 7) := .rfl

theorem oct_join (P : ℕ → sProp 𝕄) : iprop(P 0 ∗ P 1 ∗ P 2 ∗ P 3 ∗ P 4 ∗ P 5 ∗ P 6 ∗ P 7) ⊢ (oct P : sProp 𝕄) := .rfl

theorem oct_congr {P P' : ℕ → sProp 𝕄} (h : ∀ r, r < 8 → P r = P' r) : (oct P : sProp 𝕄) = oct P' := by
  unfold oct
  rw [h 0 (by decide), h 1 (by decide), h 2 (by decide), h 3 (by decide), h 4 (by decide), h 5 (by decide), h 6 (by decide), h 7 (by decide)]

section Turn
variable {c : Dev nD} {q : ℕ → PosShare TreeShare} {cs : S64.Idx → BitVec 32} {V : Bf (F := F) c (Memref.whole main_arg1)}

theorem busy_st {n : ℕ} (h : n < 64) : (busy c q cs V n : sProp 𝕄) ⊢ st c q cs V n := by rw [st_of_lt h]
theorem st_busy {n : ℕ} (h : n < 64) : (st c q cs V n : sProp 𝕄) ⊢ busy c q cs V n := by rw [st_of_lt h]
theorem free_st {n : ℕ} (h : ¬ n < 64) : (free c q V n : sProp 𝕄) ⊢ st c q cs V n := by rw [st_of_ge h]

theorem oct_start {g g' : ℕ → ℕ} (h : ∀ r, r < 8 → g r = g' r ∧ g r < 64) :
    (oct (fun r => busy c q cs V (g r)) : sProp 𝕄) ⊢ oct (fun r => st c q cs V (g' r)) := by
  rw [oct_congr (P' := fun r => st c q cs V (g' r)) fun r hr => by rw [← (h r hr).1, st_of_lt (h r hr).2]]
end Turn

end Cert.KernelIdeal.Run
end
-- ==== Proof.KernelIdeal.Wait.lean ====
module

public import proofs.«01_k».proof.Proof.KernelIdeal.Words
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "EC" => (countersEmb (nD := nD) (τ := τ) (sig := sig) (Ix := Unit) (Val := Elt F) (U := UU) (Lvl := ℕ))

/-! ## What a slot is read as -/

section Slot
variable (c : Dev nD) (q : ℕ → PosShare TreeShare) (cs : S64.Idx → BitVec 32) (V : Bf (F := F) c (Memref.whole main_arg1))

/-- Window `n` of the hidden states, in the shape in which the kernel reads a slot of its ring. -/
def slotV (n : ℕ) : Vec F S1x257x1x1024 .f32 :=
  shapeCast S1x257x1x1024 ((homeM cs n).view.read (Elt F) V) (by decide +kernel : S257x1x1024.ShapeCasts S1x257x1x1024)

theorem access_squeeze_set {S : Shape} (M : Memref sig .tc .vmem S .f32) (r : Rect S) (hr : ∀ a, r.stride a = 1) {s' : Shape} (hq : r.shape.Squeezes s') :
    (M.access r).set = ((M.slice r hr).squeeze s' hq).view.set :=
  (View.set_reshape (M.view.slice r) _).symm

/-- A load of a slot that holds window `n` reads that window. -/
theorem wp_slot (n : ℕ) {o : Fin 4 → ℕ} (e : o = ![n % 24, 0, 0, 0]) {inb} {α : Type} {Q : α → sProp 𝕄} {hl}
    {k : Vec F S1x257x1x1024 .f32 → Prog (TpuEff nD τ sig (Elt F) Λ₀ .tc) α} :
    held c q cs V n ⊢ iprop((held c q cs V n -∗ wp frame (wpE (defs₀ (F := F)) Variants.none c none) Set.univ (k (slotV c cs V n)) Q)
      -∗ wp frame (wpE (defs₀ (F := F)) Variants.none c none) Set.univ
        (.op (.load (Memref.whole cc1_scratch0) (Rect.unit (s := S24x257x1x1024) o S1x257x1x1024.size inb).toLoadRect hl) k) Q) := by
  subst e
  unfold held
  iintro ⟨⟨%f, %hf, HD⟩, HR⟩ Hk
  have hv : View.readAt (Elt F) (Memref.whole cc1_scratch0).view (Rect.unit (s := S24x257x1x1024) ![n % 24, 0, 0, 0] S1x257x1x1024.size inb).toLoadRect f = slotV c cs V n := by
    unfold slotV
    rw [← hf]
    exact (shapeCast_shapeCast _ (by decide +kernel : S1x257x1x1024.ShapeCasts S257x1x1024) _).symm
  iapply (wp_load_rect (c := (c : Thread nD τ)) Variants.none none Set.univ (m := Memref.whole cc1_scratch0)
    (r := Rect.unit (s := S24x257x1x1024) ![n % 24, 0, 0, 0] S1x257x1x1024.size inb) (S := (slotM n).view.set) (f := f)
    (le_of_eq (access_squeeze_set _ _ _ _))) $$ HD
  iintro HD
  rw [show (((Memref.whole cc1_scratch0).access (Rect.unit (s := S24x257x1x1024) ![n % 24, 0, 0, 0] S1x257x1x1024.size inb)).read (Elt F) f) = slotV c cs V n from hv]
  iapply Hk
  isplitl [HD]
  · iexists f
    isplitr
    swap; · iexact HD
    ipureintro; exact hf
  · iexact HR

end Slot

section Parts
variable (i : grid1.Coords) (M4 : Memref sig .tc .vmem S8x1x1024 .f32) (hM4 : M4.IsWhole) (M5 : Memref sig .tc .vmem S8x1x257 .f32) (hM5 : M5.IsWhole)
  (M6 : Memref sig .tc .vmem S8x1x1024 .f32) (hM6 : M6.IsWhole)

/-- Part 7 of the body: four of the point's eight waits. -/
theorem part7_run (c : Dev nD) (q : ℕ → PosShare TreeShare) (V : Bf (F := F) c (Memref.whole main_arg1)) (f0 : Bf (F := F) c (stage1_0 0))
    (hcs : ∀ x : S64.Idx, ((f0 x : BitVec 32)).toNat ≤ 1791) (a v : BitVec 32) (hv : k1_chk25 i v) {W : Waits sig Unit} {Q : _ → sProp 𝕄} :
    iprop(pt c (stage1_0 0) f0 ∗ owes (c : Thread nD τ) 0 W ∗ busy c q f0 V (8 * (i 0).val + 0) ∗ busy c q f0 V (8 * (i 0).val + 1) ∗ busy c q f0 V (8 * (i 0).val + 2) ∗ busy c q f0 V (8 * (i 0).val + 3)
      ∗ (∀ r, iprop(pt c (stage1_0 0) f0 ∗ (∃ W', owes (c : Thread nD τ) 0 W') ∗ held c q f0 V (8 * (i 0).val + 0) ∗ held c q f0 V (8 * (i 0).val + 1) ∗ held c q f0 V (8 * (i 0).val + 2) ∗ held c q f0 V (8 * (i 0).val + 3)) -∗ Q r))
      ⊢ wp frame (wpE (defs₀ (F := F)) Variants.none c none) Set.univ
        (k1_part7 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a v hv) Q := by
  rw [k1_part7_eq_skeleton]
  unfold k1_part7_skel
  have hN : (i 0).val < 8 := (i 0).isLt
  iintro ⟨H0, Ho, HA, HB, HC, HD, Hk⟩
  sl_exec
  iapply (wp_wait c q f0 V (8 * (i 0).val + 0) (k1_off50_eq i) (k1_off51_eq i)) $$ [HA Ho]
  · isplitl [HA]; · iexact HA
    iexact Ho
  iintro ⟨HA, ⟨%W0, Ho⟩⟩
  sl_exec
  iapply (wp_assume _ _ _ _ (show k1_chk26 i _ from inb_of (off56_eq i _)
    (start_le (load_start c f0 (n := (8 * (i 0).val + 1)) (by omega) (k1_off53_eq i)) hcs) (by omega)))
  sl_exec
  iapply (wp_wait c q f0 V (8 * (i 0).val + 1) (k1_off54_eq i) (k1_off55_eq i)) $$ [HB Ho]
  · isplitl [HB]; · iexact HB
    iexact Ho
  iintro ⟨HB, ⟨%W1, Ho⟩⟩
  sl_exec
  iapply (wp_assume _ _ _ _ (show k1_chk27 i _ from inb_of (off60_eq i _)
    (start_le (load_start c f0 (n := (8 * (i 0).val + 2)) (by omega) (k1_off57_eq i)) hcs) (by omega)))
  sl_exec
  iapply (wp_wait c q f0 V (8 * (i 0).val + 2) (k1_off58_eq i) (k1_off59_eq i)) $$ [HC Ho]
  · isplitl [HC]; · iexact HC
    iexact Ho
  iintro ⟨HC, ⟨%W2, Ho⟩⟩
  sl_exec
  iapply (wp_assume _ _ _ _ (show k1_chk28 i _ from inb_of (off64_eq i _)
    (start_le (load_start c f0 (n := (8 * (i 0).val + 3)) (by omega) (k1_off61_eq i)) hcs) (by omega)))
  sl_exec
  iapply (wp_wait c q f0 V (8 * (i 0).val + 3) (k1_off62_eq i) (k1_off63_eq i)) $$ [HD Ho]
  · isplitl [HD]; · iexact HD
    iexact Ho
  iintro ⟨HD, ⟨%W3, Ho⟩⟩
  sl_exec
  sl_step
  iapply Hk
  isplitl [H0]; · iexact H0
  isplitl [Ho]; · (iexists _; iexact Ho)
  isplitl [HA]; · iexact HA
  isplitl [HB]; · iexact HB
  isplitl [HC]; · iexact HC
  iexact HD

/-- Part 8 of the body: three more waits. -/
theorem part8_run (c : Dev nD) (q : ℕ → PosShare TreeShare) (V : Bf (F := F) c (Memref.whole main_arg1)) (f0 : Bf (F := F) c (stage1_0 0))
    (hcs : ∀ x : S64.Idx, ((f0 x : BitVec 32)).toNat ≤ 1791) (a b : BitVec 32) {W : Waits sig Unit} {Q : _ → sProp 𝕄} :
    iprop(pt c (stage1_0 0) f0 ∗ owes (c : Thread nD τ) 0 W ∗ busy c q f0 V (8 * (i 0).val + 4) ∗ busy c q f0 V (8 * (i 0).val + 5) ∗ busy c q f0 V (8 * (i 0).val + 6)
      ∗ (∀ r, iprop(pt c (stage1_0 0) f0 ∗ (∃ W', owes (c : Thread nD τ) 0 W') ∗ held c q f0 V (8 * (i 0).val + 4) ∗ held c q f0 V (8 * (i 0).val + 5) ∗ held c q f0 V (8 * (i 0).val + 6)) -∗ Q r))
      ⊢ wp frame (wpE (defs₀ (F := F)) Variants.none c none) Set.univ
        (k1_part8 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a b) Q := by
  rw [k1_part8_eq_skeleton]
  unfold k1_part8_skel
  have hN : (i 0).val < 8 := (i 0).isLt
  iintro ⟨H0, Ho, HA, HB, HC, Hk⟩
  sl_exec
  iapply (wp_assume _ _ _ _ (show k1_chk29 i _ from inb_of (off68_eq i _)
    (start_le (load_start c f0 (n := (8 * (i 0).val + 4)) (by omega) (k1_off65_eq i)) hcs) (by omega)))
  sl_exec
  iapply (wp_wait c q f0 V (8 * (i 0).val + 4) (k1_off66_eq i) (k1_off67_eq i)) $$ [HA Ho]
  · isplitl [HA]; · iexact HA
    iexact Ho
  iintro ⟨HA, ⟨%W4, Ho⟩⟩
  sl_exec
  iapply (wp_assume _ _ _ _ (show k1_chk30 i _ from inb_of (off72_eq i _)
    (start_le (load_start c f0 (n := (8 * (i 0).val + 5)) (by omega) (k1_off69_eq i)) hcs) (by omega)))
  sl_exec
  iapply (wp_wait c q f0 V (8 * (i 0).val + 5) (k1_off70_eq i) (k1_off71_eq i)) $$ [HB Ho]
  · isplitl [HB]; · iexact HB
    iexact Ho
  iintro ⟨HB, ⟨%W5, Ho⟩⟩
  sl_exec
  iapply (wp_assume _ _ _ _ (show k1_chk31 i _ from inb_of (off76_eq i _)
    (start_le (load_start c f0 (n := (8 * (i 0).val + 6)) (by omega) (k1_off73_eq i)) hcs) (by omega)))
  sl_exec
  iapply (wp_wait c q f0 V (8 * (i 0).val + 6) (k1_off74_eq i) (k1_off75_eq i)) $$ [HC Ho]
  · isplitl [HC]; · iexact HC
    iexact Ho
  iintro ⟨HC, ⟨%W6, Ho⟩⟩
  sl_exec
  sl_step
  iapply Hk
  isplitl [H0]; · iexact H0
  isplitl [Ho]; · (iexists _; iexact Ho)
  isplitl [HA]; · iexact HA
  isplitl [HB]; · iexact HB
  iexact HC

/-- Part 9 of the body: the last wait, the load of the point's block of `x`, and the first three slots. -/
theorem part9_run (c : Dev nD) (q : ℕ → PosShare TreeShare) (V : Bf (F := F) c (Memref.whole main_arg1)) (f0 : Bf (F := F) c (stage1_0 0))
    (hcs : ∀ x : S64.Idx, ((f0 x : BitVec 32)).toNat ≤ 1791) (f4 : Bf (F := F) c M4) (a b : BitVec 32) {W : Waits sig Unit} {Q : _ → sProp 𝕄} :
    iprop(pt c (stage1_0 0) f0 ∗ pt c M4 f4 ∗ owes (c : Thread nD τ) 0 W ∗ held c q f0 V (8 * (i 0).val + 0) ∗ held c q f0 V (8 * (i 0).val + 1) ∗ held c q f0 V (8 * (i 0).val + 2)
      ∗ busy c q f0 V (8 * (i 0).val + 7)
      ∗ (∀ d, iprop(pt c (stage1_0 0) f0 ∗ pt c M4 f4 ∗ (∃ W', owes (c : Thread nD τ) 0 W') ∗ held c q f0 V (8 * (i 0).val + 0) ∗ held c q f0 V (8 * (i 0).val + 1)
          ∗ held c q f0 V (8 * (i 0).val + 2) ∗ held c q f0 V (8 * (i 0).val + 7))
        -∗ Q ⟨k1_pay3 (M4.view.read (Elt F) f4), k1_pay4 (slotV c f0 V (8 * (i 0).val + 0)), k1_pay5 (slotV c f0 V (8 * (i 0).val + 1)), k1_pay6 (slotV c f0 V (8 * (i 0).val + 2)), d⟩))
      ⊢ wp frame (wpE (defs₀ (F := F)) Variants.none c none) Set.univ
        (k1_part9 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a b) Q := by
  rw [k1_part9_eq_skeleton]
  unfold k1_part9_skel
  have hN : (i 0).val < 8 := (i 0).isLt
  have e4 : ∀ h, View.readAt (Elt F) M4.view (Rect.unit ![0, 0, 0] S8x1x1024.size h).toLoadRect f4 = M4.view.read (Elt F) f4 :=
    fun h => View.readAt_full _ _ _
  iintro ⟨H0, H4, Ho, HA, HB, HC, HH, Hk⟩
  sl_exec
  iapply (wp_assume _ _ _ _ (show k1_chk32 i _ from inb_of (off80_eq i _)
    (start_le (load_start c f0 (n := (8 * (i 0).val + 7)) (by omega) (k1_off77_eq i)) hcs) (by omega)))
  sl_exec
  iapply (wp_wait c q f0 V (8 * (i 0).val + 7) (k1_off78_eq i) (k1_off79_eq i)) $$ [HH Ho]
  · isplitl [HH]; · iexact HH
    iexact Ho
  iintro ⟨HH, ⟨%W7, Ho⟩⟩
  sl_exec
  iapply (wp_slot c q f0 V (8 * (i 0).val + 0) (k1_off81_eq i 0)) $$ HA
  iintro HA
  iapply (wp_slot c q f0 V (8 * (i 0).val + 1) (k1_off81_eq i 1)) $$ HB
  iintro HB
  iapply (wp_slot c q f0 V (8 * (i 0).val + 2) (k1_off81_eq i 2)) $$ HC
  iintro HC
  dsimp only [Prog.bind]
  sl_step
  iapply Hk
  isplitl [H0]; · iexact H0
  isplitl [H4]; · iexact H4
  isplitl [Ho]; · (iexists _; iexact Ho)
  isplitl [HA]; · iexact HA
  isplitl [HB]; · iexact HB
  isplitl [HC]; · iexact HC
  iexact HH

/-- Part 10 of the body: the other five slots. -/
theorem part10_run (c : Dev nD) (q : ℕ → PosShare TreeShare) (V : Bf (F := F) c (Memref.whole main_arg1)) (f0 : Bf (F := F) c (stage1_0 0))
    (a b : BitVec 32) {Q : _ → sProp 𝕄} :
    iprop(held c q f0 V (8 * (i 0).val + 3) ∗ held c q f0 V (8 * (i 0).val + 4) ∗ held c q f0 V (8 * (i 0).val + 5) ∗ held c q f0 V (8 * (i 0).val + 6) ∗ held c q f0 V (8 * (i 0).val + 7)
      ∗ (∀ d, iprop(held c q f0 V (8 * (i 0).val + 3) ∗ held c q f0 V (8 * (i 0).val + 4) ∗ held c q f0 V (8 * (i 0).val + 5) ∗ held c q f0 V (8 * (i 0).val + 6) ∗ held c q f0 V (8 * (i 0).val + 7))
        -∗ Q ⟨k1_pay7 (slotV c f0 V (8 * (i 0).val + 3)), k1_pay8 (slotV c f0 V (8 * (i 0).val + 4)), k1_pay9 (slotV c f0 V (8 * (i 0).val + 5)), k1_pay10 (slotV c f0 V (8 * (i 0).val + 6)),
            k1_pay11 (slotV c f0 V (8 * (i 0).val + 7)), k1_pay12 (F := F), d⟩))
      ⊢ wp frame (wpE (defs₀ (F := F)) Variants.none c none) Set.univ
        (k1_part10 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a b) Q := by
  rw [k1_part10_eq_skeleton]
  unfold k1_part10_skel
  iintro ⟨HA, HB, HC, HD, HE, Hk⟩
  iapply (wp_slot c q f0 V (8 * (i 0).val + 3) (k1_off81_eq i 3)) $$ HA
  iintro HA
  iapply (wp_slot c q f0 V (8 * (i 0).val + 4) (k1_off81_eq i 4)) $$ HB
  iintro HB
  iapply (wp_slot c q f0 V (8 * (i 0).val + 5) (k1_off81_eq i 5)) $$ HC
  iintro HC
  iapply (wp_slot c q f0 V (8 * (i 0).val + 6) (k1_off81_eq i 6)) $$ HD
  iintro HD
  iapply (wp_slot c q f0 V (8 * (i 0).val + 7) (k1_off81_eq i 7)) $$ HE
  iintro HE
  dsimp only [Prog.bind]
  sl_step
  iapply Hk
  isplitl [HA]; · iexact HA
  isplitl [HB]; · iexact HB
  isplitl [HC]; · iexact HC
  isplitl [HD]; · iexact HD
  iexact HE

end Parts
end Cert.KernelIdeal.Run
end
-- ==== Proof.KernelIdeal.Start.lean ====
module

public import proofs.«01_k».proof.Proof.KernelIdeal.Words

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "EC" => (countersEmb (nD := nD) (τ := τ) (sig := sig) (Ix := Unit) (Val := Elt F) (U := UU) (Lvl := ℕ))

variable (i : grid1.Coords) (M4 : Memref sig .tc .vmem S8x1x1024 .f32) (hM4 : M4.IsWhole) (M5 : Memref sig .tc .vmem S8x1x257 .f32) (hM5 : M5.IsWhole)
    (M6 : Memref sig .tc .vmem S8x1x1024 .f32) (hM6 : M6.IsWhole)

/-- Part 5 of the body: at the first point the first sixteen copies are started; then the first four of the point's eight. -/
theorem part5_run (c : Dev nD) (q : ℕ → PosShare TreeShare) (V : Bf (F := F) c (Memref.whole main_arg1)) (f0 : Bf (F := F) c (stage1_0 0))
    (hcs : ∀ x : S64.Idx, ((f0 x : BitVec 32)).toNat ≤ 1791) {Q : _ → sProp 𝕄} :
    iprop(pt c (stage1_0 0) f0
      ∗ (if (i 0).val = 0 then iprop(oct (fun r => free c q V r) ∗ oct (fun r => free c q V (8 + r)))
          else iprop(oct (fun r => st c q f0 V (8 * (i 0).val + r)) ∗ oct (fun r => st c q f0 V (8 * (i 0).val + (8 + r)))))
      ∗ free c q V (8 * (i 0).val + 16) ∗ free c q V (8 * (i 0).val + 17) ∗ free c q V (8 * (i 0).val + 18) ∗ free c q V (8 * (i 0).val + 19)
      ∗ (∀ r, iprop(pt c (stage1_0 0) f0
        ∗ oct (fun r => st c q f0 V (8 * (i 0).val + r)) ∗ oct (fun r => st c q f0 V (8 * (i 0).val + (8 + r)))
        ∗ st c q f0 V (8 * (i 0).val + 16) ∗ st c q f0 V (8 * (i 0).val + 17) ∗ st c q f0 V (8 * (i 0).val + 18) ∗ st c q f0 V (8 * (i 0).val + 19)) -∗ Q r))
      ⊢ wp frame (wpE (defs₀ (F := F)) Variants.none c none) Set.univ
        (k1_part5 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1) Q := by
  rw [k1_part5_eq_skeleton]
  unfold k1_part5_skel
  by_cases hi : (i 0).val < 6
  · have h2 := (cond2_iff i).2 hi
    have h3 := (cond3_iff i).2 hi
    have h4 := (cond4_iff i).2 hi
    have h5 := (cond5_iff i).2 hi
    by_cases h0 : (i 0).val = 0
    case' pos =>
      have h1 := (cond1_iff i).2 h0
      rw [if_pos h0]
      iintro ⟨H0, ⟨HP, HPP⟩, HA, HB, HC, HD, Hk⟩
      ihave ⟨P0, P1, P2, P3, P4, P5, P6, P7⟩ := (oct_split _) $$ HP
      ihave ⟨P8, P9, P10, P11, P12, P13, P14, P15⟩ := (oct_split _) $$ HPP
      sl_exec
      iapply (wp_assume _ _ _ _ (show k1_chk1 i _ from fun _ => inb_of (n := 0) rfl
        (start_le (load_start c f0 (n := 0) (by decide) rfl) hcs) (by decide)))
      sl_exec
      iapply (wp_start c q f0 V 0 rfl rfl (home_eq (n := 0) rfl (load_start c f0 (by decide) rfl) hcs (by decide))) $$ P0
      iintro P0
      sl_exec
      iapply (wp_assume _ _ _ _ (show k1_chk2 i _ from fun _ => inb_of (n := 1) rfl
        (start_le (load_start c f0 (n := 1) (by decide) rfl) hcs) (by decide)))
      sl_exec
      iapply (wp_start c q f0 V 1 rfl rfl (home_eq (n := 1) rfl (load_start c f0 (by decide) rfl) hcs (by decide))) $$ P1
      iintro P1
      sl_exec
      iapply (wp_assume _ _ _ _ (show k1_chk3 i _ from fun _ => inb_of (n := 2) rfl
        (start_le (load_start c f0 (n := 2) (by decide) rfl) hcs) (by decide)))
      sl_exec
      iapply (wp_start c q f0 V 2 rfl rfl (home_eq (n := 2) rfl (load_start c f0 (by decide) rfl) hcs (by decide))) $$ P2
      iintro P2
      sl_exec
      iapply (wp_assume _ _ _ _ (show k1_chk4 i _ from fun _ => inb_of (n := 3) rfl
        (start_le (load_start c f0 (n := 3) (by decide) rfl) hcs) (by decide)))
      sl_exec
      iapply (wp_start c q f0 V 3 rfl rfl (home_eq (n := 3) rfl (load_start c f0 (by decide) rfl) hcs (by decide))) $$ P3
      iintro P3
      sl_exec
      iapply (wp_assume _ _ _ _ (show k1_chk5 i _ from fun _ => inb_of (n := 4) rfl
        (start_le (load_start c f0 (n := 4) (by decide) rfl) hcs) (by decide)))
      sl_exec
      iapply (wp_start c q f0 V 4 rfl rfl (home_eq (n := 4) rfl (load_start c f0 (by decide) rfl) hcs (by decide))) $$ P4
      iintro P4
      sl_exec
      iapply (wp_assume _ _ _ _ (show k1_chk6 i _ from fun _ => inb_of (n := 5) rfl
        (start_le (load_start c f0 (n := 5) (by decide) rfl) hcs) (by decide)))
      sl_exec
      iapply (wp_start c q f0 V 5 rfl rfl (home_eq (n := 5) rfl (load_start c f0 (by decide) rfl) hcs (by decide))) $$ P5
      iintro P5
      sl_exec
      iapply (wp_assume _ _ _ _ (show k1_chk7 i _ from fun _ => inb_of (n := 6) rfl
        (start_le (load_start c f0 (n := 6) (by decide) rfl) hcs) (by decide)))
      sl_exec
      iapply (wp_start c q f0 V 6 rfl rfl (home_eq (n := 6) rfl (load_start c f0 (by decide) rfl) hcs (by decide))) $$ P6
      iintro P6
      sl_exec
      iapply (wp_assume _ _ _ _ (show k1_chk8 i _ from fun _ => inb_of (n := 7) rfl
        (start_le (load_start c f0 (n := 7) (by decide) rfl) hcs) (by decide)))
      sl_exec
      iapply (wp_start c q f0 V 7 rfl rfl (home_eq (n := 7) rfl (load_start c f0 (by decide) rfl) hcs (by decide))) $$ P7
      iintro P7
      sl_exec
      iapply (wp_assume _ _ _ _ (show k1_chk9 i _ from fun _ => inb_of (n := 8) rfl
        (start_le (load_start c f0 (n := 8) (by decide) rfl) hcs) (by decide)))
      sl_exec
      iapply (wp_start c q f0 V 8 rfl rfl (home_eq (n := 8) rfl (load_start c f0 (by decide) rfl) hcs (by decide))) $$ P8
      iintro P8
      sl_exec
      iapply (wp_assume _ _ _ _ (show k1_chk10 i _ from fun _ => inb_of (n := 9) rfl
        (start_le (load_start c f0 (n := 9) (by decide) rfl) hcs) (by decide)))
      sl_exec
      iapply (wp_start c q f0 V 9 rfl rfl (home_eq (n := 9) rfl (load_start c f0 (by decide) rfl) hcs (by decide))) $$ P9
      iintro P9
      sl_exec
      iapply (wp_assume _ _ _ _ (show k1_chk11 i _ from fun _ => inb_of (n := 10) rfl
        (start_le (load_start c f0 (n := 10) (by decide) rfl) hcs) (by decide)))
      sl_exec
      iapply (wp_start c q f0 V 10 rfl rfl (home_eq (n := 10) rfl (load_start c f0 (by decide) rfl) hcs (by decide))) $$ P10
      iintro P10
      sl_exec
      iapply (wp_assume _ _ _ _ (show k1_chk12 i _ from fun _ => inb_of (n := 11) rfl
        (start_le (load_start c f0 (n := 11) (by decide) rfl) hcs) (by decide)))
      sl_exec
      iapply (wp_start c q f0 V 11 rfl rfl (home_eq (n := 11) rfl (load_start c f0 (by decide) rfl) hcs (by decide))) $$ P11
      iintro P11
      sl_exec
      iapply (wp_assume _ _ _ _ (show k1_chk13 i _ from fun _ => inb_of (n := 12) rfl
        (start_le (load_start c f0 (n := 12) (by decide) rfl) hcs) (by decide)))
      sl_exec
      iapply (wp_start c q f0 V 12 rfl rfl (home_eq (n := 12) rfl (load_start c f0 (by decide) rfl) hcs (by decide))) $$ P12
      iintro P12
      sl_exec
      iapply (wp_assume _ _ _ _ (show k1_chk14 i _ from fun _ => inb_of (n := 13) rfl
        (start_le (load_start c f0 (n := 13) (by decide) rfl) hcs) (by decide)))
      sl_exec
      iapply (wp_start c q f0 V 13 rfl rfl (home_eq (n := 13) rfl (load_start c f0 (by decide) rfl) hcs (by decide))) $$ P13
      iintro P13
      sl_exec
      iapply (wp_assume _ _ _ _ (show k1_chk15 i _ from fun _ => inb_of (n := 14) rfl
        (start_le (load_start c f0 (n := 14) (by decide) rfl) hcs) (by decide)))
      sl_exec
      iapply (wp_start c q f0 V 14 rfl rfl (home_eq (n := 14) rfl (load_start c f0 (by decide) rfl) hcs (by decide))) $$ P14
      iintro P14
      sl_exec
      iapply (wp_assume _ _ _ _ (show k1_chk16 i _ from fun _ => inb_of (n := 15) rfl
        (start_le (load_start c f0 (n := 15) (by decide) rfl) hcs) (by decide)))
      sl_exec
      iapply (wp_start c q f0 V 15 rfl rfl (home_eq (n := 15) rfl (load_start c f0 (by decide) rfl) hcs (by decide))) $$ P15
      iintro P15
      sl_exec
      ihave HP := (oct_join (fun r => busy c q f0 V r)) $$ [P0 P1 P2 P3 P4 P5 P6 P7]
      · iframe
      ihave HPP := (oct_join (fun r => busy c q f0 V (8 + r))) $$ [P8 P9 P10 P11 P12 P13 P14 P15]
      · iframe
      ihave HP := (oct_start (g := fun r => r) (g' := fun r => 8 * (i 0).val + r) fun r hr => by omega) $$ HP
      ihave HPP := (oct_start (g := fun r => 8 + r) (g' := fun r => 8 * (i 0).val + (8 + r)) fun r hr => by omega) $$ HPP
    case' neg =>
      have h1 : ¬ k1_cond1 i = 1#1 := fun h => h0 ((cond1_iff i).1 h)
      rw [if_neg h0]
      iintro ⟨H0, ⟨HP, HPP⟩, HA, HB, HC, HD, Hk⟩
      sl_exec
    all_goals
      iapply (wp_assume _ _ _ _ (show k1_chk17 i _ from fun _ => inb_of (off20_eq i _)
        (start_le (load_start c f0 (n := 8 * (i 0).val + 16) (by omega) (k1_off17_eq i)) hcs) (by omega)))
      sl_exec
      iapply (wp_start c q f0 V (8 * (i 0).val + 16) (k1_off18_eq i) (k1_off19_eq i)
        (home_eq (off20_eq i _) (load_start c f0 (by omega) (k1_off17_eq i)) hcs (by omega))) $$ HA
      iintro HA
      sl_exec
      iapply (wp_assume _ _ _ _ (show k1_chk18 i _ from fun _ => inb_of (off24_eq i _)
        (start_le (load_start c f0 (n := 8 * (i 0).val + 17) (by omega) (k1_off21_eq i)) hcs) (by omega)))
      sl_exec
      iapply (wp_start c q f0 V (8 * (i 0).val + 17) (k1_off22_eq i) (k1_off23_eq i)
        (home_eq (off24_eq i _) (load_start c f0 (by omega) (k1_off21_eq i)) hcs (by omega))) $$ HB
      iintro HB
      sl_exec
      iapply (wp_assume _ _ _ _ (show k1_chk19 i _ from fun _ => inb_of (off28_eq i _)
        (start_le (load_start c f0 (n := 8 * (i 0).val + 18) (by omega) (k1_off25_eq i)) hcs) (by omega)))
      sl_exec
      iapply (wp_start c q f0 V (8 * (i 0).val + 18) (k1_off26_eq i) (k1_off27_eq i)
        (home_eq (off28_eq i _) (load_start c f0 (by omega) (k1_off25_eq i)) hcs (by omega))) $$ HC
      iintro HC
      sl_exec
      iapply (wp_assume _ _ _ _ (show k1_chk20 i _ from fun _ => inb_of (off32_eq i _)
        (start_le (load_start c f0 (n := 8 * (i 0).val + 19) (by omega) (k1_off29_eq i)) hcs) (by omega)))
      sl_exec
      iapply (wp_start c q f0 V (8 * (i 0).val + 19) (k1_off30_eq i) (k1_off31_eq i)
        (home_eq (off32_eq i _) (load_start c f0 (by omega) (k1_off29_eq i)) hcs (by omega))) $$ HD
      iintro HD
      sl_exec
      sl_step
      ihave HA := (busy_st (cs := f0) (by omega)) $$ HA
      ihave HB := (busy_st (cs := f0) (by omega)) $$ HB
      ihave HC := (busy_st (cs := f0) (by omega)) $$ HC
      ihave HD := (busy_st (cs := f0) (by omega)) $$ HD
      iapply Hk
      isplitl [H0]; · iexact H0
      isplitl [HP]; · iexact HP
      isplitl [HPP]; · iexact HPP
      isplitl [HA]; · iexact HA
      isplitl [HB]; · iexact HB
      isplitl [HC]; · iexact HC
      iexact HD
  · have h1 : ¬ k1_cond1 i = 1#1 := fun h => hi (by have := (cond1_iff i).1 h; omega)
    have h2 : ¬ k1_cond2 i = 1#1 := fun h => hi ((cond2_iff i).1 h)
    have h3 : ¬ k1_cond3 i = 1#1 := fun h => hi ((cond3_iff i).1 h)
    have h4 : ¬ k1_cond4 i = 1#1 := fun h => hi ((cond4_iff i).1 h)
    have h5 : ¬ k1_cond5 i = 1#1 := fun h => hi ((cond5_iff i).1 h)
    rw [if_neg (by omega)]
    iintro ⟨H0, ⟨HP, HPP⟩, HA, HB, HC, HD, Hk⟩
    sl_exec
    sl_step
    ihave HA := (free_st (cs := f0) (by omega)) $$ HA
    ihave HB := (free_st (cs := f0) (by omega)) $$ HB
    ihave HC := (free_st (cs := f0) (by omega)) $$ HC
    ihave HD := (free_st (cs := f0) (by omega)) $$ HD
    iapply Hk
    isplitl [H0]; · iexact H0
    isplitl [HP]; · iexact HP
    isplitl [HPP]; · iexact HPP
    isplitl [HA]; · iexact HA
    isplitl [HB]; · iexact HB
    isplitl [HC]; · iexact HC
    iexact HD

/-- Part 6 of the body: the last four of the point's eight copies. -/
theorem part6_run (c : Dev nD) (q : ℕ → PosShare TreeShare) (V : Bf (F := F) c (Memref.whole main_arg1)) (f0 : Bf (F := F) c (stage1_0 0))
    (hcs : ∀ x : S64.Idx, ((f0 x : BitVec 32)).toNat ≤ 1791) (a v b : BitVec 32) {Q : _ → sProp 𝕄} :
    iprop(pt c (stage1_0 0) f0
      ∗ free c q V (8 * (i 0).val + 20) ∗ free c q V (8 * (i 0).val + 21) ∗ free c q V (8 * (i 0).val + 22) ∗ free c q V (8 * (i 0).val + 23)
      ∗ (∀ r, iprop(pt c (stage1_0 0) f0
        ∗ st c q f0 V (8 * (i 0).val + 20) ∗ st c q f0 V (8 * (i 0).val + 21) ∗ st c q f0 V (8 * (i 0).val + 22) ∗ st c q f0 V (8 * (i 0).val + 23)) -∗ Q r))
      ⊢ wp frame (wpE (defs₀ (F := F)) Variants.none c none) Set.univ
        (k1_part6 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a v b) Q := by
  rw [k1_part6_eq_skeleton]
  unfold k1_part6_skel
  have hN : (i 0).val < 8 := (i 0).isLt
  iintro ⟨H0, HA, HB, HC, HD, Hk⟩
  by_cases hi : (i 0).val < 6
  · have h6 := (cond6_iff i).2 hi
    have h7 := (cond7_iff i).2 hi
    have h8 := (cond8_iff i).2 hi
    have h9 := (cond9_iff i).2 hi
    sl_exec
    iapply (wp_assume _ _ _ _ (show k1_chk21 i _ from fun _ => inb_of (off36_eq i _)
      (start_le (load_start c f0 (n := 8 * (i 0).val + 20) (by omega) (k1_off33_eq i)) hcs) (by omega)))
    sl_exec
    iapply (wp_start c q f0 V (8 * (i 0).val + 20) (k1_off34_eq i) (k1_off35_eq i)
      (home_eq (off36_eq i _) (load_start c f0 (by omega) (k1_off33_eq i)) hcs (by omega))) $$ HA
    iintro HA
    sl_exec
    iapply (wp_assume _ _ _ _ (show k1_chk22 i _ from fun _ => inb_of (off40_eq i _)
      (start_le (load_start c f0 (n := 8 * (i 0).val + 21) (by omega) (k1_off37_eq i)) hcs) (by omega)))
    sl_exec
    iapply (wp_start c q f0 V (8 * (i 0).val + 21) (k1_off38_eq i) (k1_off39_eq i)
      (home_eq (off40_eq i _) (load_start c f0 (by omega) (k1_off37_eq i)) hcs (by omega))) $$ HB
    iintro HB
    sl_exec
    iapply (wp_assume _ _ _ _ (show k1_chk23 i _ from fun _ => inb_of (off44_eq i _)
      (start_le (load_start c f0 (n := 8 * (i 0).val + 22) (by omega) (k1_off41_eq i)) hcs) (by omega)))
    sl_exec
    iapply (wp_start c q f0 V (8 * (i 0).val + 22) (k1_off42_eq i) (k1_off43_eq i)
      (home_eq (off44_eq i _) (load_start c f0 (by omega) (k1_off41_eq i)) hcs (by omega))) $$ HC
    iintro HC
    sl_exec
    iapply (wp_assume _ _ _ _ (show k1_chk24 i _ from fun _ => inb_of (off48_eq i _)
      (start_le (load_start c f0 (n := 8 * (i 0).val + 23) (by omega) (k1_off45_eq i)) hcs) (by omega)))
    sl_exec
    iapply (wp_start c q f0 V (8 * (i 0).val + 23) (k1_off46_eq i) (k1_off47_eq i)
      (home_eq (off48_eq i _) (load_start c f0 (by omega) (k1_off45_eq i)) hcs (by omega))) $$ HD
    iintro HD
    sl_exec
    ihave HA := (busy_st (cs := f0) (by omega)) $$ HA
    ihave HB := (busy_st (cs := f0) (by omega)) $$ HB
    ihave HC := (busy_st (cs := f0) (by omega)) $$ HC
    ihave HD := (busy_st (cs := f0) (by omega)) $$ HD
    iapply (wp_assume _ _ _ _ (show k1_chk25 i _ from inb_of (off52_eq i _)
      (start_le (load_start c f0 (n := 8 * (i 0).val) (by omega) (k1_off49_eq i)) hcs) (by omega)))
    sl_exec
    sl_step
    iapply Hk
    isplitl [H0]; · iexact H0
    isplitl [HA]; · iexact HA
    isplitl [HB]; · iexact HB
    isplitl [HC]; · iexact HC
    iexact HD
  · have h6 : ¬ k1_cond6 i = 1#1 := fun h => hi ((cond6_iff i).1 h)
    have h7 : ¬ k1_cond7 i = 1#1 := fun h => hi ((cond7_iff i).1 h)
    have h8 : ¬ k1_cond8 i = 1#1 := fun h => hi ((cond8_iff i).1 h)
    have h9 : ¬ k1_cond9 i = 1#1 := fun h => hi ((cond9_iff i).1 h)
    sl_exec
    ihave HA := (free_st (cs := f0) (by omega)) $$ HA
    ihave HB := (free_st (cs := f0) (by omega)) $$ HB
    ihave HC := (free_st (cs := f0) (by omega)) $$ HC
    ihave HD := (free_st (cs := f0) (by omega)) $$ HD
    iapply (wp_assume _ _ _ _ (show k1_chk25 i _ from inb_of (off52_eq i _)
      (start_le (load_start c f0 (n := 8 * (i 0).val) (by omega) (k1_off49_eq i)) hcs) (by omega)))
    sl_exec
    sl_step
    iapply Hk
    isplitl [H0]; · iexact H0
    isplitl [HA]; · iexact HA
    isplitl [HB]; · iexact HB
    isplitl [HC]; · iexact HC
    iexact HD

end Cert.KernelIdeal.Run
end
-- ==== Proof.KernelIdeal.Attend.lean ====
module

public import proofs.«01_k».proof.Proof.KernelIdeal.Wait
public import proofs.«01_k».proof.Proof.KernelIdeal.Start

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "EC" => (countersEmb (nD := nD) (τ := τ) (sig := sig) (Ix := Unit) (Val := Elt F) (U := UU) (Lvl := ℕ))

/-! ## What one grid point computes -/

section Block
variable (x : Vec F S8x1x1024 .f32) (w : ℕ → Vec F S1x257x1x1024 .f32) (u : ℕ → Elt F .i32) (p l : ℕ → Elt F .f32)

/-- The eight windows' starts, one to a row. -/
def uCol : FVec F S8x257 .f32 :=
  k1_pay20 (k1_pay13 (u 0)) (k1_pay14 (u 1)) (k1_pay15 (u 2)) (k1_pay16 (u 3)) (k1_pay17 (u 4)) (k1_pay18 (u 5)) (k1_pay19 (u 6)) (u 7)
/-- The eight windows' positions, one to a row. -/
def pCol : FVec F S8x257 .f32 := k1_pay21 (p 0) (p 1) (p 2) (p 3) (p 4) (p 5) (p 6) (p 7)
/-- The eight windows' lengths, one to a row. -/
def lCol : FVec F S8x257 .f32 := k1_pay22 (l 0) (l 1) (l 2) (l 3) (l 4) (l 5) (l 6) (l 7)
/-- The Gaussian factors. -/
def gaussB : FVec F S8x257 .f32 := k1_pay25 (k1_pay24 k1_pay12 (uCol u) (pCol p))
/-- The exponentials of the masked scores less their row's maximum. -/
def expB : FVec F S8x257 .f32 :=
  k1_pay26 (k1_pay3 x) (k1_pay4 (w 0)) (k1_pay5 (w 1)) (k1_pay6 (w 2)) (k1_pay7 (w 3)) (k1_pay8 (w 4)) (k1_pay9 (w 5)) (k1_pay10 (w 6)) (k1_pay11 (w 7)) (lCol l) (k1_pay23 k1_pay12 (uCol u))
/-- The rows' sums of them. -/
def sumB : FVec F S8x1 .f32 :=
  k1_pay27 (k1_pay3 x) (k1_pay4 (w 0)) (k1_pay5 (w 1)) (k1_pay6 (w 2)) (k1_pay7 (w 3)) (k1_pay8 (w 4)) (k1_pay9 (w 5)) (k1_pay10 (w 6)) (k1_pay11 (w 7)) (lCol l) (k1_pay23 k1_pay12 (uCol u))
/-- The block of the scores. -/
def scoresB : Vec F S8x1x257 .f32 := k1_pay29 (gaussB u p) (expB x w u l) (sumB x w u l)
/-- The rows of the block of contexts. -/
def cRow : Fin 8 → Vec F S1x1x1024 .f32 :=
  ![k1_pay30 (k1_pay4 (w 0)) (gaussB u p) (expB x w u l) (sumB x w u l), k1_pay31 (k1_pay5 (w 1)) (gaussB u p) (expB x w u l) (sumB x w u l), k1_pay32 (k1_pay6 (w 2)) (gaussB u p) (expB x w u l) (sumB x w u l), k1_pay33 (k1_pay7 (w 3)) (gaussB u p) (expB x w u l) (sumB x w u l), k1_pay34 (k1_pay8 (w 4)) (gaussB u p) (expB x w u l) (sumB x w u l), k1_pay35 (k1_pay9 (w 5)) (gaussB u p) (expB x w u l) (sumB x w u l),
    k1_pay1 (k1_pay10 (w 6)) (k1_pay28 (gaussB u p) (expB x w u l) (sumB x w u l)),
    k1_pay2 (k1_pay11 (w 7)) (k1_pay28 (gaussB u p) (expB x w u l) (sumB x w u l))]
/-- The block of contexts, stored row by row. -/
def cB : Vec F S8x1x1024 .f32 := fun y => cRow x w u p l (y 0) (Fin.cons (0 : Fin 1) (fun a : Fin 2 => y a.succ))
end Block

/-- A word of one of the point's tables, loaded. -/
theorem load_word (c : Dev nD) {e : EltTy} (M : Memref sig .tc .smem S64 e) (f : Bf (F := F) c M) {n : ℕ} (hn : n < 64) {o : Fin 1 → ℕ} (eo : o = ![n]) {inb} {h} :
    View.readAt (Elt F) M.view (Rect.unit (s := S64) o S1.size inb).toLoadRect f (Shape.Idx.first h) = M.view.read (Elt F) f (widx n) := by
  subst eo
  refine congrArg (M.view.read (Elt F) f) (funext fun a => Fin.ext ?_)
  fin_cases a
  exact (Nat.mod_eq_of_lt hn).symm

section Parts
variable (i : grid1.Coords) (M4 : Memref sig .tc .vmem S8x1x1024 .f32) (hM4 : M4.IsWhole) (M5 : Memref sig .tc .vmem S8x1x257 .f32) (hM5 : M5.IsWhole)
  (M6 : Memref sig .tc .vmem S8x1x1024 .f32) (hM6 : M6.IsWhole)

/-- Part 11 of the body: the eight starts. -/
theorem part11_run (c : Dev nD) (f : Bf (F := F) c (stage1_1 0)) (a b : BitVec 32) {Q : _ → sProp 𝕄} :
    iprop(pt c (stage1_1 0) f ∗ (pt c (stage1_1 0) f
        -∗ Q ⟨k1_pay13 (f (widx (8 * (i 0).val + 0))), k1_pay14 (f (widx (8 * (i 0).val + 1))), k1_pay15 (f (widx (8 * (i 0).val + 2))), k1_pay16 (f (widx (8 * (i 0).val + 3))), k1_pay17 (f (widx (8 * (i 0).val + 4))), k1_pay18 (f (widx (8 * (i 0).val + 5))), k1_pay19 (f (widx (8 * (i 0).val + 6))), f (widx (8 * (i 0).val + 7))⟩))
      ⊢ wp frame (wpE (defs₀ (F := F)) Variants.none c none) Set.univ
        (k1_part11 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a b) Q := by
  rw [k1_part11_eq_skeleton]
  unfold k1_part11_skel
  have hN : (i 0).val < 8 := (i 0).isLt
  iintro ⟨H0, Hk⟩
  sl_exec
  sl_step
  have e0 : part11_run.sl.r i c f = f (widx (8 * (i 0).val + 0)) := load_word c (stage1_1 0) f (by omega) (k1_off82_eq i 0)
  have e1 : part11_run.sl.r_1 i c f = f (widx (8 * (i 0).val + 1)) := load_word c (stage1_1 0) f (by omega) (k1_off82_eq i 1)
  have e2 : part11_run.sl.r_2 i c f = f (widx (8 * (i 0).val + 2)) := load_word c (stage1_1 0) f (by omega) (k1_off82_eq i 2)
  have e3 : part11_run.sl.r_3 i c f = f (widx (8 * (i 0).val + 3)) := load_word c (stage1_1 0) f (by omega) (k1_off82_eq i 3)
  have e4 : part11_run.sl.r_4 i c f = f (widx (8 * (i 0).val + 4)) := load_word c (stage1_1 0) f (by omega) (k1_off82_eq i 4)
  have e5 : part11_run.sl.r_5 i c f = f (widx (8 * (i 0).val + 5)) := load_word c (stage1_1 0) f (by omega) (k1_off82_eq i 5)
  have e6 : part11_run.sl.r_6 i c f = f (widx (8 * (i 0).val + 6)) := load_word c (stage1_1 0) f (by omega) (k1_off82_eq i 6)
  have e7 : part11_run.sl.r_7 i c f = f (widx (8 * (i 0).val + 7)) := load_word c (stage1_1 0) f (by omega) (k1_off82_eq i 7)
  simp only [e0, e1, e2, e3, e4, e5, e6, e7]
  iapply Hk
  iexact H0

/-- Part 12 of the body: the eight positions. -/
theorem part12_run (c : Dev nD) (f : Bf (F := F) c (stage1_2 0)) (a : BitVec 32) (v0 v1 v2 v3 v4 v5 v6 : FVec F S1x257 .f32) (v7 : Elt F .i32) {Q : _ → sProp 𝕄} :
    iprop(pt c (stage1_2 0) f ∗ (pt c (stage1_2 0) f
        -∗ Q ⟨k1_pay20 v0 v1 v2 v3 v4 v5 v6 v7, k1_pay21 (f (widx (8 * (i 0).val + 0))) (f (widx (8 * (i 0).val + 1))) (f (widx (8 * (i 0).val + 2))) (f (widx (8 * (i 0).val + 3))) (f (widx (8 * (i 0).val + 4))) (f (widx (8 * (i 0).val + 5))) (f (widx (8 * (i 0).val + 6))) (f (widx (8 * (i 0).val + 7)))⟩))
      ⊢ wp frame (wpE (defs₀ (F := F)) Variants.none c none) Set.univ
        (k1_part12 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a v0 v1 v2 v3 v4 v5 v6 v7) Q := by
  rw [k1_part12_eq_skeleton]
  unfold k1_part12_skel
  have hN : (i 0).val < 8 := (i 0).isLt
  iintro ⟨H0, Hk⟩
  sl_exec
  sl_step
  have e0 : part12_run.sl.r i c f = f (widx (8 * (i 0).val + 0)) := load_word c (stage1_2 0) f (by omega) (k1_off82_eq i 0)
  have e1 : part12_run.sl.r_1 i c f = f (widx (8 * (i 0).val + 1)) := load_word c (stage1_2 0) f (by omega) (k1_off82_eq i 1)
  have e2 : part12_run.sl.r_2 i c f = f (widx (8 * (i 0).val + 2)) := load_word c (stage1_2 0) f (by omega) (k1_off82_eq i 2)
  have e3 : part12_run.sl.r_3 i c f = f (widx (8 * (i 0).val + 3)) := load_word c (stage1_2 0) f (by omega) (k1_off82_eq i 3)
  have e4 : part12_run.sl.r_4 i c f = f (widx (8 * (i 0).val + 4)) := load_word c (stage1_2 0) f (by omega) (k1_off82_eq i 4)
  have e5 : part12_run.sl.r_5 i c f = f (widx (8 * (i 0).val + 5)) := load_word c (stage1_2 0) f (by omega) (k1_off82_eq i 5)
  have e6 : part12_run.sl.r_6 i c f = f (widx (8 * (i 0).val + 6)) := load_word c (stage1_2 0) f (by omega) (k1_off82_eq i 6)
  have e7 : part12_run.sl.r_7 i c f = f (widx (8 * (i 0).val + 7)) := load_word c (stage1_2 0) f (by omega) (k1_off82_eq i 7)
  simp only [e0, e1, e2, e3, e4, e5, e6, e7]
  iapply Hk
  iexact H0

/-- Part 13 of the body: the eight lengths. -/
theorem part13_run (c : Dev nD) (f : Bf (F := F) c (stage1_3 0)) (a : BitVec 32) (t v r : FVec F S8x257 .f32) {Q : _ → sProp 𝕄} :
    iprop(pt c (stage1_3 0) f ∗ (pt c (stage1_3 0) f
        -∗ Q ⟨k1_pay22 (f (widx (8 * (i 0).val + 0))) (f (widx (8 * (i 0).val + 1))) (f (widx (8 * (i 0).val + 2))) (f (widx (8 * (i 0).val + 3))) (f (widx (8 * (i 0).val + 4))) (f (widx (8 * (i 0).val + 5))) (f (widx (8 * (i 0).val + 6))) (f (widx (8 * (i 0).val + 7))), k1_pay23 t v, k1_pay24 t v r⟩))
      ⊢ wp frame (wpE (defs₀ (F := F)) Variants.none c none) Set.univ
        (k1_part13 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 a t v r) Q := by
  rw [k1_part13_eq_skeleton]
  unfold k1_part13_skel
  have hN : (i 0).val < 8 := (i 0).isLt
  iintro ⟨H0, Hk⟩
  sl_exec
  sl_step
  have e0 : part13_run.sl.r i c f = f (widx (8 * (i 0).val + 0)) := load_word c (stage1_3 0) f (by omega) (k1_off82_eq i 0)
  have e1 : part13_run.sl.r_1 i c f = f (widx (8 * (i 0).val + 1)) := load_word c (stage1_3 0) f (by omega) (k1_off82_eq i 1)
  have e2 : part13_run.sl.r_2 i c f = f (widx (8 * (i 0).val + 2)) := load_word c (stage1_3 0) f (by omega) (k1_off82_eq i 2)
  have e3 : part13_run.sl.r_3 i c f = f (widx (8 * (i 0).val + 3)) := load_word c (stage1_3 0) f (by omega) (k1_off82_eq i 3)
  have e4 : part13_run.sl.r_4 i c f = f (widx (8 * (i 0).val + 4)) := load_word c (stage1_3 0) f (by omega) (k1_off82_eq i 4)
  have e5 : part13_run.sl.r_5 i c f = f (widx (8 * (i 0).val + 5)) := load_word c (stage1_3 0) f (by omega) (k1_off82_eq i 5)
  have e6 : part13_run.sl.r_6 i c f = f (widx (8 * (i 0).val + 6)) := load_word c (stage1_3 0) f (by omega) (k1_off82_eq i 6)
  have e7 : part13_run.sl.r_7 i c f = f (widx (8 * (i 0).val + 7)) := load_word c (stage1_3 0) f (by omega) (k1_off82_eq i 7)
  simp only [e0, e1, e2, e3, e4, e5, e6, e7]
  iapply Hk
  iexact H0

/-- Part 14 of the body touches no memory. -/
theorem part14_run (c : Dev nD) (x : FVec F S8x1x1024 .f32) (w0 w1 w2 w3 w4 w5 w6 w7 : FVec F S257x1024 .f32) (l t g : FVec F S8x257 .f32) {Q : _ → sProp 𝕄} :
    Q ⟨k1_pay25 g, k1_pay26 x w0 w1 w2 w3 w4 w5 w6 w7 l t, k1_pay27 x w0 w1 w2 w3 w4 w5 w6 w7 l t⟩
      ⊢ wp frame (wpE (defs₀ (F := F)) Variants.none c none) Set.univ
        (k1_part14 i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1 x w0 w1 w2 w3 w4 w5 w6 w7 l t g) Q := by
  rw [k1_part14_eq_skeleton]
  unfold k1_part14_skel
  iintro H
  sl_step
  iexact H

theorem row_hit {sp : Space} (M : Memref sig .tc sp S8x1x1024 .f32) (f : M.view.ty.Contents (Elt F)) (k : ℕ)
    (h : ∀ a, (![k, 0, 0] : Fin 3 → ℕ) a + S1x1x1024.size a ≤ S8x1x1024.size a) (w : Vec F S1x1x1024 .f32)
    (L : List (View.Piece (Elt F) S8x1x1024 .f32)) (y : S8x1x1024.Idx) (hy : (y 0).val = k) :
    M.view.read (Elt F) (M.view.writes (Elt F) f (⟨Rect.unit (s := S8x1x1024) ![k, 0, 0] S1x1x1024.size h, w⟩ :: L)) y
      = w (Fin.cons (0 : Fin 1) (fun a : Fin 2 => y a.succ)) := by
  refine View.read_writes_cons_unit_of_mem M.view f h w L y _ rfl fun a => ?_
  fin_cases a
  · exact hy.trans (Nat.add_zero k).symm
  · exact (Nat.zero_add _).symm
  · exact (Nat.zero_add _).symm

theorem row_miss {sp : Space} (M : Memref sig .tc sp S8x1x1024 .f32) (f : M.view.ty.Contents (Elt F)) (k : ℕ)
    (h : ∀ a, (![k, 0, 0] : Fin 3 → ℕ) a + S1x1x1024.size a ≤ S8x1x1024.size a) (w : Vec F S1x1x1024 .f32)
    (L : List (View.Piece (Elt F) S8x1x1024 .f32)) (y : S8x1x1024.Idx) (hy : (y 0).val ≠ k) :
    M.view.read (Elt F) (M.view.writes (Elt F) f (⟨Rect.unit (s := S8x1x1024) ![k, 0, 0] S1x1x1024.size h, w⟩ :: L)) y
      = M.view.read (Elt F) (M.view.writes (Elt F) f L) y := by
  refine View.read_writes_cons_unit_of_not_mem M.view f h w L y rfl 0 ?_
  rcases Nat.lt_or_gt_of_ne hy with h | h
  · exact .inl h
  · exact .inr (Nat.succ_le_of_lt h)

/-- Eight rows stored one by one. -/
theorem read_rows {sp : Space} (M : Memref sig .tc sp S8x1x1024 .f32) (f : M.view.ty.Contents (Elt F)) (w : Fin 8 → Vec F S1x1x1024 .f32)
    {h0 : ∀ a, (![0, 0, 0] : Fin 3 → ℕ) a + S1x1x1024.size a ≤ S8x1x1024.size a} {h1 : ∀ a, (![1, 0, 0] : Fin 3 → ℕ) a + S1x1x1024.size a ≤ S8x1x1024.size a} {h2 : ∀ a, (![2, 0, 0] : Fin 3 → ℕ) a + S1x1x1024.size a ≤ S8x1x1024.size a} {h3 : ∀ a, (![3, 0, 0] : Fin 3 → ℕ) a + S1x1x1024.size a ≤ S8x1x1024.size a} {h4 : ∀ a, (![4, 0, 0] : Fin 3 → ℕ) a + S1x1x1024.size a ≤ S8x1x1024.size a} {h5 : ∀ a, (![5, 0, 0] : Fin 3 → ℕ) a + S1x1x1024.size a ≤ S8x1x1024.size a} {h6 : ∀ a, (![6, 0, 0] : Fin 3 → ℕ) a + S1x1x1024.size a ≤ S8x1x1024.size a} {h7 : ∀ a, (![7, 0, 0] : Fin 3 → ℕ) a + S1x1x1024.size a ≤ S8x1x1024.size a} :
    M.view.read (Elt F) (M.view.writes (Elt F) f [⟨Rect.unit (s := S8x1x1024) ![7, 0, 0] S1x1x1024.size h7, w 7⟩, ⟨Rect.unit (s := S8x1x1024) ![6, 0, 0] S1x1x1024.size h6, w 6⟩, ⟨Rect.unit (s := S8x1x1024) ![5, 0, 0] S1x1x1024.size h5, w 5⟩, ⟨Rect.unit (s := S8x1x1024) ![4, 0, 0] S1x1x1024.size h4, w 4⟩, ⟨Rect.unit (s := S8x1x1024) ![3, 0, 0] S1x1x1024.size h3, w 3⟩, ⟨Rect.unit (s := S8x1x1024) ![2, 0, 0] S1x1x1024.size h2, w 2⟩, ⟨Rect.unit (s := S8x1x1024) ![1, 0, 0] S1x1x1024.size h1, w 1⟩, ⟨Rect.unit (s := S8x1x1024) ![0, 0, 0] S1x1x1024.size h0, w 0⟩])
      = fun y => w (y 0) (Fin.cons (0 : Fin 1) (fun a : Fin 2 => y a.succ)) := by
  funext y
  have hlt : (y 0).val < 8 := (y 0).isLt
  have key : ∀ k : Fin 8, y 0 = k → w k = w (y 0) := fun k h => by rw [h]
  rcases (show (y 0).val = 0 ∨ (y 0).val = 1 ∨ (y 0).val = 2 ∨ (y 0).val = 3 ∨ (y 0).val = 4 ∨ (y 0).val = 5 ∨ (y 0).val = 6 ∨ (y 0).val = 7 by omega)
    with e | e | e | e | e | e | e | e
  · rw [row_miss M f 7 _ _ _ y (by omega), row_miss M f 6 _ _ _ y (by omega), row_miss M f 5 _ _ _ y (by omega), row_miss M f 4 _ _ _ y (by omega), row_miss M f 3 _ _ _ y (by omega), row_miss M f 2 _ _ _ y (by omega), row_miss M f 1 _ _ _ y (by omega), row_hit M f 0 _ _ _ y e, key 0 (Fin.ext e)]
  · rw [row_miss M f 7 _ _ _ y (by omega), row_miss M f 6 _ _ _ y (by omega), row_miss M f 5 _ _ _ y (by omega), row_miss M f 4 _ _ _ y (by omega), row_miss M f 3 _ _ _ y (by omega), row_miss M f 2 _ _ _ y (by omega), row_hit M f 1 _ _ _ y e, key 1 (Fin.ext e)]
  · rw [row_miss M f 7 _ _ _ y (by omega), row_miss M f 6 _ _ _ y (by omega), row_miss M f 5 _ _ _ y (by omega), row_miss M f 4 _ _ _ y (by omega), row_miss M f 3 _ _ _ y (by omega), row_hit M f 2 _ _ _ y e, key 2 (Fin.ext e)]
  · rw [row_miss M f 7 _ _ _ y (by omega), row_miss M f 6 _ _ _ y (by omega), row_miss M f 5 _ _ _ y (by omega), row_miss M f 4 _ _ _ y (by omega), row_hit M f 3 _ _ _ y e, key 3 (Fin.ext e)]
  · rw [row_miss M f 7 _ _ _ y (by omega), row_miss M f 6 _ _ _ y (by omega), row_miss M f 5 _ _ _ y (by omega), row_hit M f 4 _ _ _ y e, key 4 (Fin.ext e)]
  · rw [row_miss M f 7 _ _ _ y (by omega), row_miss M f 6 _ _ _ y (by omega), row_hit M f 5 _ _ _ y e, key 5 (Fin.ext e)]
  · rw [row_miss M f 7 _ _ _ y (by omega), row_hit M f 6 _ _ _ y e, key 6 (Fin.ext e)]
  · rw [row_hit M f 7 _ _ _ y e, key 7 (Fin.ext e)]

theorem read_rows' {sp : Space} (M : Memref sig .tc sp S8x1x1024 .f32) (f : M.view.ty.Contents (Elt F)) (w0 w1 w2 w3 w4 w5 w6 w7 : Vec F S1x1x1024 .f32)
    {h0 : ∀ a, (![0, 0, 0] : Fin 3 → ℕ) a + S1x1x1024.size a ≤ S8x1x1024.size a} {h1 : ∀ a, (![1, 0, 0] : Fin 3 → ℕ) a + S1x1x1024.size a ≤ S8x1x1024.size a} {h2 : ∀ a, (![2, 0, 0] : Fin 3 → ℕ) a + S1x1x1024.size a ≤ S8x1x1024.size a} {h3 : ∀ a, (![3, 0, 0] : Fin 3 → ℕ) a + S1x1x1024.size a ≤ S8x1x1024.size a} {h4 : ∀ a, (![4, 0, 0] : Fin 3 → ℕ) a + S1x1x1024.size a ≤ S8x1x1024.size a} {h5 : ∀ a, (![5, 0, 0] : Fin 3 → ℕ) a + S1x1x1024.size a ≤ S8x1x1024.size a} {h6 : ∀ a, (![6, 0, 0] : Fin 3 → ℕ) a + S1x1x1024.size a ≤ S8x1x1024.size a} {h7 : ∀ a, (![7, 0, 0] : Fin 3 → ℕ) a + S1x1x1024.size a ≤ S8x1x1024.size a} :
    M.view.read (Elt F) (M.view.writes (Elt F) f [⟨Rect.unit (s := S8x1x1024) ![7, 0, 0] S1x1x1024.size h7, w7⟩, ⟨Rect.unit (s := S8x1x1024) ![6, 0, 0] S1x1x1024.size h6, w6⟩, ⟨Rect.unit (s := S8x1x1024) ![5, 0, 0] S1x1x1024.size h5, w5⟩, ⟨Rect.unit (s := S8x1x1024) ![4, 0, 0] S1x1x1024.size h4, w4⟩, ⟨Rect.unit (s := S8x1x1024) ![3, 0, 0] S1x1x1024.size h3, w3⟩, ⟨Rect.unit (s := S8x1x1024) ![2, 0, 0] S1x1x1024.size h2, w2⟩, ⟨Rect.unit (s := S8x1x1024) ![1, 0, 0] S1x1x1024.size h1, w1⟩, ⟨Rect.unit (s := S8x1x1024) ![0, 0, 0] S1x1x1024.size h0, w0⟩])
      = fun y => (![w0, w1, w2, w3, w4, w5, w6, w7] : Fin 8 → Vec F S1x1x1024 .f32) (y 0) (Fin.cons (0 : Fin 1) (fun a : Fin 2 => y a.succ)) :=
  read_rows M f ![w0, w1, w2, w3, w4, w5, w6, w7]

/-- A program's two halves, one after the other. -/
theorem bind_run (c : Dev nD) {α β : Type} (p : Prog (TpuEff nD τ sig (Elt F) Λ₀ .tc) α) (k : α → Prog (TpuEff nD τ sig (Elt F) Λ₀ .tc) β) (Q : β → sProp 𝕄) :
    wp frame (wpE (defs₀ (F := F)) Variants.none c none) Set.univ p (fun a => wp frame (wpE (defs₀ (F := F)) Variants.none c none) Set.univ (k a) Q)
      ⊢ wp frame (wpE (defs₀ (F := F)) Variants.none c none) Set.univ (p >>= k) Q := by
  rw [wp_bind]

/-- The body of the attention kernel at one grid point. -/
theorem body_run (c : Dev nD) (q : ℕ → PosShare TreeShare) (V : Bf (F := F) c (Memref.whole main_arg1)) (f0 : Bf (F := F) c (stage1_0 0))
    (hcs : ∀ x : S64.Idx, ((f0 x : BitVec 32)).toNat ≤ 1791)
    (f1 : Bf (F := F) c (stage1_1 0)) (f2 : Bf (F := F) c (stage1_2 0)) (f3 : Bf (F := F) c (stage1_3 0))
    (f4 : Bf (F := F) c M4) (f5 : Bf (F := F) c M5) (f6 : Bf (F := F) c M6) {W : Waits sig Unit} {Q : PUnit → sProp 𝕄} :
    iprop(pt c (stage1_0 0) f0 ∗ pt c (stage1_1 0) f1 ∗ pt c (stage1_2 0) f2 ∗ pt c (stage1_3 0) f3 ∗ pt c M4 f4 ∗ pt c M5 f5 ∗ pt c M6 f6
      ∗ owes (c : Thread nD τ) 0 W
      ∗ (if (i 0).val = 0 then iprop(oct (fun r => free c q V r) ∗ oct (fun r => free c q V (8 + r)))
          else iprop(oct (fun r => st c q f0 V (8 * (i 0).val + r)) ∗ oct (fun r => st c q f0 V (8 * (i 0).val + (8 + r)))))
      ∗ oct (fun r => free c q V (8 * (i 0).val + (16 + r)))
      ∗ (iprop(pt c (stage1_0 0) f0 ∗ pt c (stage1_1 0) f1 ∗ pt c (stage1_2 0) f2 ∗ pt c (stage1_3 0) f3 ∗ pt c M4 f4
          ∗ (∃ g5, ⌜M5.view.read (Elt F) g5 = scoresB (M4.view.read (Elt F) f4) (fun r => slotV c f0 V (8 * (i 0).val + r))
              (fun r => f1 (widx (8 * (i 0).val + r))) (fun r => f2 (widx (8 * (i 0).val + r))) (fun r => f3 (widx (8 * (i 0).val + r)))⌝ ∗ pt c M5 g5)
          ∗ (∃ g6, ⌜M6.view.read (Elt F) g6 = cB (M4.view.read (Elt F) f4) (fun r => slotV c f0 V (8 * (i 0).val + r))
              (fun r => f1 (widx (8 * (i 0).val + r))) (fun r => f2 (widx (8 * (i 0).val + r))) (fun r => f3 (widx (8 * (i 0).val + r)))⌝ ∗ pt c M6 g6)
          ∗ (∃ W', owes (c : Thread nD τ) 0 W')
          ∗ oct (fun r => held c q f0 V (8 * (i 0).val + r))
          ∗ oct (fun r => st c q f0 V (8 * (i 0).val + (8 + r)))
          ∗ oct (fun r => st c q f0 V (8 * (i 0).val + (16 + r)))) -∗ Q ⟨⟩))
      ⊢ wp frame (wpE (defs₀ (F := F)) Variants.none c none) Set.univ
        (cc1__attend_kernel i (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1) Q := by
  rw [cc1__attend_kernel_eq_skeleton]
  unfold cc1__attend_kernel_skel
  have hN : (i 0).val < 8 := (i 0).isLt
  iintro ⟨H0, H1, H2, H3, H4, H5, H6, Ho, HI, HF, Hk⟩
  ihave ⟨F0, F1, F2, F3, F4, F5, F6, F7⟩ := (oct_split _) $$ HF
  iapply (bind_run c)
  iapply (part5_run i M4 hM4 M5 hM5 M6 hM6 c q V f0 hcs)
  isplitl [H0]; · iexact H0
  isplitl [HI]; · iexact HI
  isplitl [F0]; · iexact F0
  isplitl [F1]; · iexact F1
  isplitl [F2]; · iexact F2
  isplitl [F3]; · iexact F3
  iintro %r ⟨H0, HA, HB, F0, F1, F2, F3⟩
  iapply (bind_run c)
  iapply (part6_run i M4 hM4 M5 hM5 M6 hM6 c q V f0 hcs)
  isplitl [H0]; · iexact H0
  isplitl [F4]; · iexact F4
  isplitl [F5]; · iexact F5
  isplitl [F6]; · iexact F6
  isplitl [F7]; · iexact F7
  iintro %r2 ⟨H0, F4, F5, F6, F7⟩
  ihave ⟨A0, A1, A2, A3, A4, A5, A6, A7⟩ := (oct_split _) $$ HA
  ihave A0 := (st_busy (cs := f0) (by omega)) $$ A0
  ihave A1 := (st_busy (cs := f0) (by omega)) $$ A1
  ihave A2 := (st_busy (cs := f0) (by omega)) $$ A2
  ihave A3 := (st_busy (cs := f0) (by omega)) $$ A3
  ihave A4 := (st_busy (cs := f0) (by omega)) $$ A4
  ihave A5 := (st_busy (cs := f0) (by omega)) $$ A5
  ihave A6 := (st_busy (cs := f0) (by omega)) $$ A6
  ihave A7 := (st_busy (cs := f0) (by omega)) $$ A7
  iapply (bind_run c)
  iapply (part7_run i M4 hM4 M5 hM5 M6 hM6 c q V f0 hcs)
  isplitl [H0]; · iexact H0
  isplitl [Ho]; · iexact Ho
  isplitl [A0]; · iexact A0
  isplitl [A1]; · iexact A1
  isplitl [A2]; · iexact A2
  isplitl [A3]; · iexact A3
  iintro %r3 ⟨H0, ⟨%W1, Ho⟩, A0, A1, A2, A3⟩
  iapply (bind_run c)
  iapply (part8_run i M4 hM4 M5 hM5 M6 hM6 c q V f0 hcs)
  isplitl [H0]; · iexact H0
  isplitl [Ho]; · iexact Ho
  isplitl [A4]; · iexact A4
  isplitl [A5]; · iexact A5
  isplitl [A6]; · iexact A6
  iintro %r4 ⟨H0, ⟨%W2, Ho⟩, A4, A5, A6⟩
  iapply (bind_run c)
  iapply (part9_run i M4 hM4 M5 hM5 M6 hM6 c q V f0 hcs f4)
  isplitl [H0]; · iexact H0
  isplitl [H4]; · iexact H4
  isplitl [Ho]; · iexact Ho
  isplitl [A0]; · iexact A0
  isplitl [A1]; · iexact A1
  isplitl [A2]; · iexact A2
  isplitl [A7]; · iexact A7
  iintro %r5 ⟨H0, H4, Ho, A0, A1, A2, A7⟩
  iapply (bind_run c)
  iapply (part10_run i M4 hM4 M5 hM5 M6 hM6 c q V f0)
  isplitl [A3]; · iexact A3
  isplitl [A4]; · iexact A4
  isplitl [A5]; · iexact A5
  isplitl [A6]; · iexact A6
  isplitl [A7]; · iexact A7
  iintro %r6 ⟨A3, A4, A5, A6, A7⟩
  iapply (bind_run c)
  iapply (part11_run i M4 hM4 M5 hM5 M6 hM6 c f1)
  isplitl [H1]; · iexact H1
  iintro H1
  iapply (bind_run c)
  iapply (part12_run i M4 hM4 M5 hM5 M6 hM6 c f2)
  isplitl [H2]; · iexact H2
  iintro H2
  iapply (bind_run c)
  iapply (part13_run i M4 hM4 M5 hM5 M6 hM6 c f3)
  isplitl [H3]; · iexact H3
  iintro H3
  iapply (bind_run c)
  iapply (part14_run i M4 hM4 M5 hM5 M6 hM6 c)
  sl_exec
  sl_step
  iapply Hk
  isplitl [H0]; · iexact H0
  isplitl [H1]; · iexact H1
  isplitl [H2]; · iexact H2
  isplitl [H3]; · iexact H3
  isplitl [H4]; · iexact H4
  isplitl [H5]
  · iexists _
    isplitr
    swap; · iexact H5
    ipureintro
    exact View.read_writes_full M5.view f5 _ _ _
  isplitl [H6]
  · iexists _
    isplitr
    swap; · iexact H6
    ipureintro
    unfold body_run.sl.r_1 body_run.sl.r
    exact read_rows' M6 f6 _ _ _ _ _ _ _ _
  isplitl [Ho]; · iexact Ho
  isplitl [A0 A1 A2 A3 A4 A5 A6 A7]
  · iapply (oct_join (fun r => held c q f0 V (8 * (i 0).val + r)))
    iframe
  isplitl [HB]; · iexact HB
  iapply (oct_join (fun r => st c q f0 V (8 * (i 0).val + (16 + r))))
  iframe

end Parts
end Cert.KernelIdeal.Run
end
-- ==== Proof.KernelIdeal.Ends.lean ====
module

public import proofs.«01_k».proof.Proof.KernelIdeal.Attend
public import Idealize.ShloMosaic.Lib.Ring

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
/-- The share of the hidden states that a slot of the ring keeps. -/
abbrev tok (k : ℕ) : PosShare TreeShare := Transfers.shareTokN fullShare k

/-- The kernel's own completion cells. -/
abbrev osem1 : Fin 24 → SemLoc sig := fun k => .dma (semM k.val)

theorem osem1_facts : Pipeline.OwnSemFacts spec1 osem1 := by decide +kernel

/-- The elements of slot `b`. -/
abbrev slotSet (b : Fin 24) : Finset S24x257x1x1024.Idx :=
  (Rect.unit (s := S24x257x1x1024) ![b.val % 24, 0, 0, 0] S1x257x1x1024.size (slot_inb b.val)).set

theorem slotM_set (b : Fin 24) : (slotM b.val).view.set = slotSet b := by
  refine (View.set_reshape _ _).trans ?_
  exact View.set_slice_whole cc1_scratch0 _

theorem slotSet_disjoint (b b' : Fin 24) (h : b ≠ b') : Disjoint (slotSet b) (slotSet b') :=
  Ring.lead_disjoint (s := S24x257x1x1024) (NB := 24) 0 1 (fun b => ![b.val % 24, 0, 0, 0]) S1x257x1x1024.size (fun b => slot_inb b.val)
    (fun b => by show b.val % 24 = 1 * b.val; have := b.isLt; omega) rfl b b' h

theorem slotSet_cover : Finset.univ.biUnion slotSet = (Finset.univ : Finset S24x257x1x1024.Idx) :=
  Ring.lead_cover (s := S24x257x1x1024) (NB := 24) 0 1 (fun b => ![b.val % 24, 0, 0, 0]) S1x257x1x1024.size (fun b => slot_inb b.val)
    (fun b => by show b.val % 24 = 1 * b.val; have := b.isLt; omega)
    (fun b a ha => by fin_cases a <;> first | exact absurd rfl ha | rfl) rfl
    (fun a ha => by fin_cases a <;> first | exact absurd rfl ha | rfl) rfl

section Ends
variable (c : Dev nD) (V : Bf (F := F) c (Memref.whole main_arg1))

/-- Every slot of the ring free. -/
def frees : sProp 𝕄 := bigSep Finset.univ fun k : Fin 24 => free c tok V k.val

theorem slotM_congr {n n' : ℕ} (h : n % 24 = n' % 24) : slotM n = slotM n' := by
  have key : ∀ (o o' : Fin 4 → ℕ) (i : ∀ a, o a + S1x257x1x1024.size a ≤ S24x257x1x1024.size a) (i' : ∀ a, o' a + S1x257x1x1024.size a ≤ S24x257x1x1024.size a), o = o' →
      ((Memref.whole cc1_scratch0).slice (Rect.unit (s := S24x257x1x1024) o S1x257x1x1024.size i) (fun _ => rfl)).squeeze
        S257x1x1024 squeezes_S1x257x1x1024_S257x1x1024
      = ((Memref.whole cc1_scratch0).slice (Rect.unit (s := S24x257x1x1024) o' S1x257x1x1024.size i') (fun _ => rfl)).squeeze
        S257x1x1024 squeezes_S1x257x1x1024_S257x1x1024 := by
    intro o o' i i' e; subst e; rfl
  exact key _ _ _ _ (by rw [h])

theorem semM_congr {n n' : ℕ} (h : n % 24 = n' % 24) : semM n = semM n' := by
  have key : ∀ (o o' : Fin 1 → ℕ) (i : ∀ a, o a + S1.size a ≤ S24.size a) (i' : ∀ a, o' a + S1.size a ≤ S24.size a), o = o' →
      ((cc1_scratch1.slice (Rect.unit (s := S24) o S1.size i)).squeeze S_ squeezes_S1_S_).sem
      = ((cc1_scratch1.slice (Rect.unit (s := S24) o' S1.size i')).squeeze S_ squeezes_S1_S_).sem := by
    intro o o' i i' e; subst e; rfl
  exact key _ _ _ _ (by rw [h])

/-- A free slot is the same slot twenty-four windows later. -/
theorem free_congr {n n' : ℕ} (h : n % 24 = n' % 24) : (free c tok V n : sProp 𝕄) = free c tok V n' := by
  unfold free
  rw [slotM_congr h, semM_congr h, h]

/-- A slot whose window was read is free. -/
theorem held_free (cs : S64.Idx → BitVec 32) (n : ℕ) : (held c tok cs V n : sProp 𝕄) ⊢ free c tok V n := by
  unfold held free idle
  iintro ⟨⟨%f, -, H⟩, Hs, Ha⟩
  isplitr [Ha]; swap; · iexact Ha
  isplitl [Hs]; · iexact Hs
  iexists f; iexact H

theorem frees_parts : (frees c V : sProp 𝕄)
    = iprop(((bigSep Finset.univ fun k : Fin 24 => semVal ((c : Thread nD τ), .dma (semM k.val)) 0)
        ∗ (bigSep Finset.univ fun k : Fin 24 => iprop(∃ f, ((c : Thread nD τ).loc cc1_scratch0) ↦[slotSet k]{fullShare} f)))
      ∗ bigSep Finset.univ fun k : Fin 24 => (c : Thread nD τ).loc main_arg1 ↦{tok k.val} V) := by
  refine Eq.trans (bigSep_congr fun k _ => ?_) ((bigSep_sep _ _ _).trans (congrArg (fun x => BI.sep x _) (bigSep_sep _ _ _)))
  unfold free idle
  rw [show k.val % 24 = k.val from Nat.mod_eq_of_lt k.isLt, slotM_set]
  rfl

theorem chain_octs (P : ℕ → sProp 𝕄) : iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17 ∗ P 18 ∗ P 19 ∗ P 20 ∗ P 21 ∗ P 22 ∗ P 23)
    ⊢ iprop((P 0 ∗ P 1 ∗ P 2 ∗ P 3 ∗ P 4 ∗ P 5 ∗ P 6 ∗ P 7) ∗ (P 8 ∗ P 9 ∗ P 10 ∗ P 11 ∗ P 12 ∗ P 13 ∗ P 14 ∗ P 15) ∗ (P 16 ∗ P 17 ∗ P 18 ∗ P 19 ∗ P 20 ∗ P 21 ∗ P 22 ∗ P 23)) := by
  iintro ⟨H0, H1, H2, H3, H4, H5, H6, H7, H8, H9, H10, H11, H12, H13, H14, H15, H16, H17, H18, H19, H20, H21, H22, H23⟩
  iframe

theorem octs_chain (P : ℕ → sProp 𝕄) : iprop((P 0 ∗ P 1 ∗ P 2 ∗ P 3 ∗ P 4 ∗ P 5 ∗ P 6 ∗ P 7) ∗ (P 8 ∗ P 9 ∗ P 10 ∗ P 11 ∗ P 12 ∗ P 13 ∗ P 14 ∗ P 15) ∗ (P 16 ∗ P 17 ∗ P 18 ∗ P 19 ∗ P 20 ∗ P 21 ∗ P 22 ∗ P 23))
    ⊢ iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17 ∗ P 18 ∗ P 19 ∗ P 20 ∗ P 21 ∗ P 22 ∗ P 23) := by
  iintro ⟨⟨H0, H1, H2, H3, H4, H5, H6, H7⟩, ⟨H8, H9, H10, H11, H12, H13, H14, H15⟩, ⟨H16, H17, H18, H19, H20, H21, H22, H23⟩⟩
  iframe

theorem frees_octs : (frees c V : sProp 𝕄)
    = iprop(oct (fun r => free c tok V r) ∗ oct (fun r => free c tok V (8 + r)) ∗ oct (fun r => free c tok V (16 + r))) := by
  unfold frees
  rw [bigSep_univ_eq_bigSepL [0, 1, 2, 3, 4, 5, 6, 7, 8, 9, 10, 11, 12, 13, 14, 15, 16, 17, 18, 19, 20, 21, 22, 23] (by decide) (by decide)]
  exact BI.Entails.antisymm (chain_octs (fun n => free c tok V n)) (octs_chain (fun n => free c tok V n))

/-- The ring when the region is entered: the cells at zero, the scratch, and the hidden states dealt out. -/
theorem frees_in :
    iprop((∃ f : Buf (Elt F) ((c : Thread nD τ).loc cc1_scratch0), ((c : Thread nD τ).loc cc1_scratch0) ↦{fullShare} f)
      ∗ Pipeline.ownSems0 (Ix := Unit) (Name := ℕ) (U := UU) (Lvl := ℕ) (Val := Elt F) (τ := τ) osem1 c
      ∗ ((c : Thread nD τ).loc main_arg1 ↦{fullShare} V))
    ⊢ iprop(frees c V ∗ ((c : Thread nD τ).loc main_arg1 ↦{Transfers.shareDrop fullShare 24} V)) := by
  iintro ⟨⟨%f, Hs⟩, Ho, Ha⟩
  ihave ⟨Hd, Ht⟩ := (Transfers.pointsTo_toks_split fullShare 24) $$ Ha
  isplitr [Hd]; swap; · iexact Hd
  ihave Hs := (show ((((c : Thread nD τ).loc cc1_scratch0) ↦{fullShare} f : sProp 𝕄)) ⊢ bigSep Finset.univ fun b : Fin 24 => ((c : Thread nD τ).loc cc1_scratch0) ↦[slotSet b]{fullShare} f
    from by rw [← Ring.pointsTo_blocks slotSet slotSet_disjoint slotSet_cover f]) $$ Hs
  ihave Hs := (show (bigSep Finset.univ fun b : Fin 24 => (((c : Thread nD τ).loc cc1_scratch0) ↦[slotSet b]{fullShare} f : sProp 𝕄))
      ⊢ bigSep Finset.univ fun b : Fin 24 => iprop(∃ f, ((c : Thread nD τ).loc cc1_scratch0) ↦[slotSet b]{fullShare} f)
    from bigSep_mono fun b _ => (show (((c : Thread nD τ).loc cc1_scratch0 ↦[slotSet b]{fullShare} f : sProp 𝕄)) ⊢ iprop(∃ f, ((c : Thread nD τ).loc cc1_scratch0) ↦[slotSet b]{fullShare} f)
      from by iintro H; iexists f; iexact H)) $$ Hs
  iapply (Entails.of_eq (frees_parts c V).symm)
  isplitr [Ht]; swap; · iexact Ht
  isplitl [Ho]
  · unfold Pipeline.ownSems0
    iexact Ho
  iexact Hs

theorem frees_out (f₀ : Buf (Elt F) ((c : Thread nD τ).loc cc1_scratch0)) :
    iprop(frees c V ∗ ((c : Thread nD τ).loc main_arg1 ↦{Transfers.shareDrop fullShare 24} V))
    ⊢ iprop((∃ f : Buf (Elt F) ((c : Thread nD τ).loc cc1_scratch0), ((c : Thread nD τ).loc cc1_scratch0) ↦{fullShare} f)
      ∗ Pipeline.ownSems0 (Ix := Unit) (Name := ℕ) (U := UU) (Lvl := ℕ) (Val := Elt F) (τ := τ) osem1 c
      ∗ ((c : Thread nD τ).loc main_arg1 ↦{fullShare} V)) := by
  iintro ⟨H, Hd⟩
  ihave ⟨⟨Ho, Hs⟩, Ht⟩ := (Entails.of_eq (frees_parts c V)) $$ H
  isplitl [Hs]
  · iapply (Ring.pointsTo_blocks_join_exists slotSet slotSet_disjoint slotSet_cover f₀); iexact Hs
  isplitl [Ho]
  · unfold Pipeline.ownSems0
    iexact Ho
  iapply (Transfers.pointsTo_toks_join fullShare 24)
  isplitl [Hd]; · iexact Hd
  iexact Ht

/-- The ring before point `t`: the next sixteen windows on their way, a third of the slots free. -/
def ring (cs : S64.Idx → BitVec 32) (t : ℕ) : sProp 𝕄 :=
  if t = 0 then frees c V
  else iprop((oct (fun r => st c tok cs V (8 * t + r)) ∗ oct (fun r => st c tok cs V (8 * t + (8 + r))))
    ∗ oct (fun r => free c tok V (8 * t + (16 + r))))

/-- What the body takes of the ring. -/
theorem ring_take (cs : S64.Idx → BitVec 32) (t : ℕ) : (ring c V cs t : sProp 𝕄)
    ⊢ iprop((if t = 0 then iprop(oct (fun r => free c tok V r) ∗ oct (fun r => free c tok V (8 + r)))
          else iprop(oct (fun r => st c tok cs V (8 * t + r)) ∗ oct (fun r => st c tok cs V (8 * t + (8 + r)))))
      ∗ oct (fun r => free c tok V (8 * t + (16 + r)))) := by
  unfold ring
  by_cases h : t = 0
  · subst h
    rw [if_pos rfl, if_pos rfl, frees_octs, oct_congr (P := fun r => free c tok V (8 * 0 + (16 + r))) (P' := fun r => free c tok V (16 + r)) fun r _ => by rw [Nat.mul_zero, Nat.zero_add]]
    iintro ⟨A, B, C⟩
    iframe
  · rw [if_neg h, if_neg h]

/-- What the body gives back is the ring one point later. -/
theorem ring_put (cs : S64.Idx → BitVec 32) (t : ℕ) :
    iprop(oct (fun r => held c tok cs V (8 * t + r)) ∗ oct (fun r => st c tok cs V (8 * t + (8 + r))) ∗ oct (fun r => st c tok cs V (8 * t + (16 + r))))
      ⊢ (ring c V cs (t + 1) : sProp 𝕄) := by
  unfold ring
  rw [if_neg (Nat.succ_ne_zero t),
    oct_congr (P := fun r => st c tok cs V (8 * (t + 1) + r)) (P' := fun r => st c tok cs V (8 * t + (8 + r))) fun r _ => by
      rw [show 8 * (t + 1) + r = 8 * t + (8 + r) by omega],
    oct_congr (P := fun r => st c tok cs V (8 * (t + 1) + (8 + r))) (P' := fun r => st c tok cs V (8 * t + (16 + r))) fun r _ => by
      rw [show 8 * (t + 1) + (8 + r) = 8 * t + (16 + r) by omega],
    oct_congr (P := fun r => free c tok V (8 * (t + 1) + (16 + r))) (P' := fun r => free c tok V (8 * t + r)) fun r _ =>
      free_congr c V (by omega)]
  iintro ⟨A, B, C⟩
  isplitr [A]
  · isplitl [B]; · iexact B
    iexact C
  unfold oct
  icases A with ⟨A0, A1, A2, A3, A4, A5, A6, A7⟩
  isplitl [A0]; · iapply (held_free c V cs); iexact A0
  isplitl [A1]; · iapply (held_free c V cs); iexact A1
  isplitl [A2]; · iapply (held_free c V cs); iexact A2
  isplitl [A3]; · iapply (held_free c V cs); iexact A3
  isplitl [A4]; · iapply (held_free c V cs); iexact A4
  isplitl [A5]; · iapply (held_free c V cs); iexact A5
  isplitl [A6]; · iapply (held_free c V cs); iexact A6
  iapply (held_free c V cs); iexact A7

/-- After the last point every slot is free. -/
theorem ring_last (cs : S64.Idx → BitVec 32) : (ring c V cs 8 : sProp 𝕄) ⊢ frees c V := by
  unfold ring
  rw [if_neg (by decide), frees_octs,
    oct_congr (P := fun r => st c tok cs V (8 * 8 + r)) (P' := fun r => free c tok V (16 + r)) fun r _ =>
      (st_of_ge (by omega)).trans (free_congr c V (by omega)),
    oct_congr (P := fun r => st c tok cs V (8 * 8 + (8 + r))) (P' := fun r => free c tok V r) fun r _ =>
      (st_of_ge (by omega)).trans (free_congr c V (by omega)),
    oct_congr (P := fun r => free c tok V (8 * 8 + (16 + r))) (P' := fun r => free c tok V (8 + r)) fun r _ =>
      free_congr c V (by omega)]
  iintro ⟨⟨A, B⟩, C⟩
  iframe
end Ends

end Cert.KernelIdeal.Run
end
-- ==== Proof.KernelIdeal.Region1.lean ====
module

public import proofs.«01_k».proof.Proof.KernelIdeal.Ends
public import proofs.«01_k».proof.Proof.KernelIdeal.Region2

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
/-- The scoped buffers the second region neither stages nor uses, held at something. -/
abbrev rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scoped1 (c : Dev nD) : (Pipeline.scopedRest (Ix := Unit) (Name := ℕ) (U := UU) (Lvl := ℕ) (Val := Elt F) spec1 c : sProp 𝕄)
    = iprop((∃ f : Buf (Elt F) ((c.tc : Thread nD τ).loc cc1_scratch0), ((c.tc : Thread nD τ).loc cc1_scratch0) ↦{fullShare} f) ∗ rest1 c) :=
  bigSep_erase (i := cc1_scratch0) (by decide +kernel)

variable (V : Vals (F := F))

/-- Window `8 t + r` of the hidden states, as a slot of the ring holds it. -/
abbrev winV (c : Dev nD) (t : ℕ) : ℕ → Vec F S1x257x1x1024 .f32 := fun r => slotV c (V c main_call0_v9) (V c main_arg1) (8 * t + r)
/-- Entry `8 t + r` of a table. -/
abbrev entV {e : EltTy} (f : Vec F S64 e) (t : ℕ) : ℕ → Elt F e := fun r => f (widx (8 * t + r))
/-- Rows `8 t … 8 t + 7` of the transformed input. -/
abbrev xBlk (c : Dev nD) (t : Fin cfg1.N) : Vec F S8x1x1024 .f32 := ((cfg1.win 4).blk t).view.read (Elt F) (V c main_call0_v13)

/-- The scores that point `t` stores. -/
def scoresV (c : Dev nD) (t : Fin cfg1.N) : Vec F S8x1x257 .f32 :=
  scoresB (xBlk V c t) (winV V c t.val) (entV (V c main_call0_v10) t.val) (entV (V c main_call0_v11) t.val) (entV (V c main_call0_v12) t.val)
/-- The weighted sums that point `t` stores. -/
def cV (c : Dev nD) (t : Fin cfg1.N) : Vec F S8x1x1024 .f32 :=
  cB (xBlk V c t) (winV V c t.val) (entV (V c main_call0_v10) t.val) (entV (V c main_call0_v11) t.val) (entV (V c main_call0_v12) t.val)

/-- The invariant of the second region before point `t`. -/
def Φ1 (c : Dev nD) (t : ℕ) : sProp 𝕄 :=
  iprop(rest1 c ∗ (∃ r, prngReg c r) ∗ ((c : Thread nD τ).loc main_arg1 ↦{Transfers.shareDrop fullShare 24} V c main_arg1)
    ∗ ring c (V c main_arg1) (V c main_call0_v9) t)

/-- The proof data of the second region. -/
def dat1 (c : Dev nD) : Dat τ (Elt F) Unit ℕ UU ℕ cfg1 c where
  A w := V c (Pipeline.arrRef spec1 w)
  after w t := match w with
    | ⟨0, _⟩ => V c main_call0_v9
    | ⟨1, _⟩ => V c main_call0_v10
    | ⟨2, _⟩ => V c main_call0_v11
    | ⟨3, _⟩ => V c main_call0_v12
    | ⟨4, _⟩ => xBlk V c t
    | ⟨5, _⟩ => scoresV V c t
    | ⟨6, _⟩ => cV V c t
  Φ t := Φ1 V c t.val
  q _ := fullShare
  owed _ := 0

theorem before1_0 (c : Dev nD) (t : Fin cfg1.N) (d) : (dat1 V c).before 0 t d = V c main_call0_v9 := by
  have e : ∀ t : Fin cfg1.N, ((cfg1.win 0).blk t).view.read (Elt F) (V c main_call0_v9) = V c main_call0_v9 := fun t =>
    View.readAt_full (Val := Elt F) (Memref.whole main_call0_v9).view _ _
  rw [(dat1 V c).before_in_eq_fetched 0 rfl (fun _ => rfl) (fun _ _ _ => rfl) (fun t => (e t).symm) t d]
  exact e t

theorem before1_1 (c : Dev nD) (t : Fin cfg1.N) (d) : (dat1 V c).before 1 t d = V c main_call0_v10 := by
  have e : ∀ t : Fin cfg1.N, ((cfg1.win 1).blk t).view.read (Elt F) (V c main_call0_v10) = V c main_call0_v10 := fun t =>
    View.readAt_full (Val := Elt F) (Memref.whole main_call0_v10).view _ _
  rw [(dat1 V c).before_in_eq_fetched 1 rfl (fun _ => rfl) (fun _ _ _ => rfl) (fun t => (e t).symm) t d]
  exact e t

theorem before1_2 (c : Dev nD) (t : Fin cfg1.N) (d) : (dat1 V c).before 2 t d = V c main_call0_v11 := by
  have e : ∀ t : Fin cfg1.N, ((cfg1.win 2).blk t).view.read (Elt F) (V c main_call0_v11) = V c main_call0_v11 := fun t =>
    View.readAt_full (Val := Elt F) (Memref.whole main_call0_v11).view _ _
  rw [(dat1 V c).before_in_eq_fetched 2 rfl (fun _ => rfl) (fun _ _ _ => rfl) (fun t => (e t).symm) t d]
  exact e t

theorem before1_3 (c : Dev nD) (t : Fin cfg1.N) (d) : (dat1 V c).before 3 t d = V c main_call0_v12 := by
  have e : ∀ t : Fin cfg1.N, ((cfg1.win 3).blk t).view.read (Elt F) (V c main_call0_v12) = V c main_call0_v12 := fun t =>
    View.readAt_full (Val := Elt F) (Memref.whole main_call0_v12).view _ _
  rw [(dat1 V c).before_in_eq_fetched 3 rfl (fun _ => rfl) (fun _ _ _ => rfl) (fun t => (e t).symm) t d]
  exact e t

theorem before1_4 (c : Dev nD) (t : Fin cfg1.N) (d) : (dat1 V c).before 4 t d = xBlk V c t := by
  rw [(dat1 V c).before_fetched 4 t (fetch1_4 t) d]
  rfl

theorem coord1 : ∀ t : Fin cfg1.N, (grid1.coords t 0).val = t.val := by decide +kernel

/-- A whole buffer owned at what its memref reads. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The body at a point, from and to what the pipeline hands it. -/
theorem step1 (hcs : ∀ c (x : S64.Idx), ((V c main_call0_v9 : Vec F S64 .i32) x : BitVec 32).toNat ≤ 1791) (c : Dev nD) (t : Fin cfg1.N)
    (M4 : Memref sig .tc .vmem S8x1x1024 .f32) (hM4 : M4.IsWhole) (M5 : Memref sig .tc .vmem S8x1x257 .f32) (hM5 : M5.IsWhole)
    (M6 : Memref sig .tc .vmem S8x1x1024 .f32) (hM6 : M6.IsWhole) (X5 : S8x1x257.Idx → Elt F .f32) (X6 : S8x1x1024.Idx → Elt F .f32)
    {W : Waits sig Unit} {Q : PUnit → sProp 𝕄} :
    iprop(Φ1 V c t.val ∗ owes (c : Thread nD τ) 0 W
      ∗ owns (c : Thread nD τ) (stage1_0 0) fullShare (V c main_call0_v9) ∗ owns (c : Thread nD τ) (stage1_1 0) fullShare (V c main_call0_v10) ∗ owns (c : Thread nD τ) (stage1_2 0) fullShare (V c main_call0_v11) ∗ owns (c : Thread nD τ) (stage1_3 0) fullShare (V c main_call0_v12)
      ∗ owns (c : Thread nD τ) M4 fullShare (xBlk V c t) ∗ owns (c : Thread nD τ) M5 fullShare X5 ∗ owns (c : Thread nD τ) M6 fullShare X6
      ∗ (iprop(Φ1 V c (t.val + 1) ∗ (∃ W', owes (c : Thread nD τ) 0 W')
      ∗ owns (c : Thread nD τ) (stage1_0 0) fullShare (V c main_call0_v9) ∗ owns (c : Thread nD τ) (stage1_1 0) fullShare (V c main_call0_v10) ∗ owns (c : Thread nD τ) (stage1_2 0) fullShare (V c main_call0_v11) ∗ owns (c : Thread nD τ) (stage1_3 0) fullShare (V c main_call0_v12)
      ∗ owns (c : Thread nD τ) M4 fullShare (xBlk V c t) ∗ owns (c : Thread nD τ) M5 fullShare (scoresV V c t)
      ∗ owns (c : Thread nD τ) M6 fullShare (cV V c t)) -∗ Q ⟨⟩))
    ⊢ wp frame (wpE (defs₀ (F := F)) Variants.none c none) Set.univ
        (cc1__attend_kernel (grid1.coords t) (stage1_0 0) (hstage1_0 0) (stage1_1 0) (hstage1_1 0) (stage1_2 0) (hstage1_2 0) (stage1_3 0) (hstage1_3 0) M4 hM4
          (Memref.whole main_arg1) (Memref.isWhole_whole _) M5 hM5 M6 hM6 (Memref.whole cc1_scratch0) (Memref.isWhole_whole _) cc1_scratch1) Q := by
  rw [owns_pt c M4 hM4, owns_pt c M5 hM5, owns_pt c M6 hM6, owns_pt c M5 hM5, owns_pt c M6 hM6]
  simp only [owns_whole_eq]
  unfold Φ1
  iintro ⟨⟨Hr, Hp, Hd, HR⟩, HO, ⟨%f0, %e0, H0⟩, ⟨%f1, %e1, H1⟩, ⟨%f2, %e2, H2⟩, ⟨%f3, %e3, H3⟩, ⟨%f4, %e4, H4⟩, ⟨%f5, -, H5⟩, ⟨%f6, -, H6⟩, Hk⟩
  subst e0 e1 e2 e3
  ihave ⟨HI, HF⟩ := (ring_take c (V c main_arg1) (V c main_call0_v9) t.val) $$ HR
  have hr := body_run (grid1.coords t) M4 hM4 M5 hM5 M6 hM6 c tok (V c main_arg1) (V c main_call0_v9) (hcs c)
    (V c main_call0_v10) (V c main_call0_v11) (V c main_call0_v12) f4 f5 f6 (W := W) (Q := Q)
  rw [coord1 t, e4] at hr
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HO]; · iexact HO
  isplitl [HI]; · iexact HI
  isplitl [HF]; · iexact HF
  iintro ⟨H0, H1, H2, H3, H4, H5, H6, HO, HA, HB, HC⟩
  iapply Hk
  isplitl [Hr Hp Hd HA HB HC]
  · isplitl [Hr]; · iexact Hr
    isplitl [Hp]; · iexact Hp
    isplitl [Hd]; · iexact Hd
    iapply (ring_put c (V c main_arg1) (V c main_call0_v9) t.val)
    isplitl [HA]; · iexact HA
    isplitl [HB]; · iexact HB
    iexact HC
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact e4
  isplitl [H5]; · iexact H5
  iexact H6

theorem body1 (hcs : ∀ c (x : S64.Idx), ((V c main_call0_v9 : Vec F S64 .i32) x : BitVec 32).toNat ≤ 1791) (c : Dev nD) :
    BodyObligation (dat1 V c) (defs₀ (F := F)) Variants.none () Set.univ := fun t => by
  rw [bigSep_W1, bigSep_W1]
  rw [show (dat1 V c).Φ t.castSucc = Φ1 V c t.val from rfl, show (dat1 V c).Φ t.succ = Φ1 V c (t.val + 1) from rfl]
  unfold Dat.owesAt Pipeline.owesWithin
  rw [show (dat1 V c).owed t.castSucc = 0 from rfl, show (dat1 V c).owed t.succ = 0 from rfl]
  show _ ⊢ wp _ _ _ (bodyAt1 t) _
  unfold bodyAt1
  have e0 : cfg1.slots t 0 = (0 : Fin 1) := Subsingleton.elim (α := Fin 1) _ _
  have e1 : cfg1.slots t 1 = (0 : Fin 1) := Subsingleton.elim (α := Fin 1) _ _
  have e2 : cfg1.slots t 2 = (0 : Fin 1) := Subsingleton.elim (α := Fin 1) _ _
  have e3 : cfg1.slots t 3 = (0 : Fin 1) := Subsingleton.elim (α := Fin 1) _ _
  simp only [before1_0, before1_1, before1_2, before1_3, before1_4, e0, e1, e2, e3]
  iintro ⟨HΦ, ⟨%W, -, HO⟩, ⟨%d0, H0⟩, ⟨%d1, H1⟩, ⟨%d2, H2⟩, ⟨%d3, H3⟩, ⟨%d4, H4⟩, ⟨%d5, H5⟩, ⟨%d6, H6⟩⟩
  iapply (step1 V hcs c t (stage1_4 (cfg1.slots t 4)) (hstage1_4 ((cfg1.slots t 4).cast nbuf1_4)) (stage1_5 (cfg1.slots t 5)) (hstage1_5 ((cfg1.slots t 5).cast nbuf1_5))
    (stage1_6 (cfg1.slots t 6)) (hstage1_6 ((cfg1.slots t 6).cast nbuf1_6)) _ _ (W := W))
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, ⟨%W', HO⟩, H0, H1, H2, H3, H4, H5, H6⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

end Cert.KernelIdeal.Run
end
-- ==== Proof.KernelIdeal.Arrays1.lean ====
module

public import proofs.«01_k».proof.Proof.KernelIdeal.Region1
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (V : Vals (F := F))

/-- An index of a block of eight rows. -/
abbrev ix3 {k m : ℕ} (a : Fin k) (b : Fin 1) (d : Fin m) : (⟨3, ![k, 1, m]⟩ : Shape).Idx := Fin.cons a (Fin.cons b (Fin.cons d (fun z => z.elim0)))

/-- The point that stores row `n`. -/
def ptOf (n : Fin 64) : Fin cfg1.N := ⟨n.val / 8, by have := n.isLt; show n.val / 8 < grid1.N; rw [N_1]; omega⟩
/-- Its place among the rows of the point. -/
def inPt (n : Fin 64) : Fin 8 := ⟨n.val % 8, by omega⟩

/-- The scores of all the windows. -/
def scoresArr (c : Dev nD) : Vec F S64x1x257 .f32 := fun x => scoresV V c (ptOf (x 0)) (ix3 (inPt (x 0)) (x 1) (x 2))
/-- The weighted sums of all the windows. -/
def cArr (c : Dev nD) : Vec F S64x1x1024 .f32 := fun x => cV V c (ptOf (x 0)) (ix3 (inPt (x 0)) (x 1) (x 2))

theorem index5 : ∀ t : Fin cfg1.N, (cfg1.win 5).index t = ![t.val, 0, 0] := by decide +kernel
theorem index6 : ∀ t : Fin cfg1.N, (cfg1.win 6).index t = ![t.val, 0, 0] := by decide +kernel
theorem index4 : ∀ t : Fin cfg1.N, (cfg1.win 4).index t = ![t.val, 0, 0] := by decide +kernel

theorem emb5 (t : Fin cfg1.N) (y : S8x1x257.Idx) (a : Fin 3) :
    ((((cfg1.win 5).blk t).view.emb y : S64x1x257.Idx) a).val = ![t.val, 0, 0] a * S8x1x257.size a + (y a).val := by
  rw [← index5 t]
  exact (cfg1.win 5).rect_emb_val t y a

theorem emb6 (t : Fin cfg1.N) (y : S8x1x1024.Idx) (a : Fin 3) :
    ((((cfg1.win 6).blk t).view.emb y : S64x1x1024.Idx) a).val = ![t.val, 0, 0] a * S8x1x1024.size a + (y a).val := by
  rw [← index6 t]
  exact (cfg1.win 6).rect_emb_val t y a

theorem emb4 (t : Fin cfg1.N) (y : S8x1x1024.Idx) (a : Fin 3) :
    ((((cfg1.win 4).blk t).view.emb y : S64x1x1024.Idx) a).val = ![t.val, 0, 0] a * S8x1x1024.size a + (y a).val := by
  rw [← index4 t]
  exact (cfg1.win 4).rect_emb_val t y a

theorem at_row {α : Type} {m : ℕ} (f : Fin cfg1.N → (⟨3, ![8, 1, m]⟩ : Shape).Idx → α) (t : Fin cfg1.N) (y : (⟨3, ![8, 1, m]⟩ : Shape).Idx)
    (z : (⟨3, ![64, 1, m]⟩ : Shape).Idx) (h : ∀ a : Fin 3, (z a).val = ![t.val, 0, 0] a * (⟨3, ![8, 1, m]⟩ : Shape).size a + (y a).val) :
    f (ptOf (z 0)) (ix3 (inPt (z 0)) (z 1) (z 2)) = f t y := by
  have h0 : (z 0).val = t.val * 8 + (y 0).val := h 0
  have h1 : (z 1).val = (y 1).val := (h 1).trans (by show 0 * 1 + _ = _; omega)
  have h2 : (z 2).val = (y 2).val := (h 2).trans (by show 0 * m + _ = _; omega)
  have hy : (y 0).val < 8 := (y 0).isLt
  have et : ptOf (z 0) = t := Fin.ext (by show (z 0).val / 8 = _; omega)
  rw [et]
  congr 1
  funext a
  match a with
  | 0 => exact Fin.ext (by show (z 0).val % 8 = _; omega)
  | 1 => exact Fin.ext h1
  | 2 => exact Fin.ext h2

theorem arr1_5 (c : Dev nD) : (dat1 V c).arrAt 5 cfg1.N = scoresArr V c :=
  (dat1 V c).arrAt_eq_of_covers 5 (scoresArr V c) (by decide +kernel) fun t _ y =>
    (at_row (scoresV V c) t y (((cfg1.win 5).blk t).view.emb y) (emb5 t y)).symm

theorem arr1_6 (c : Dev nD) : (dat1 V c).arrAt 6 cfg1.N = cArr V c :=
  (dat1 V c).arrAt_eq_of_covers 6 (cArr V c) (by decide +kernel) fun t _ y =>
    (at_row (cV V c) t y (((cfg1.win 6).blk t).view.emb y) (emb6 t y)).symm

/-- A row of the transformed input at a point. -/
theorem xBlk_row (c : Dev nD) (n : Fin 64) (d : Fin 1024) :
    xBlk V c (ptOf n) (ix3 (inPt n) 0 d) = (V c main_call0_v13 : Vec F S64x1x1024 .f32) (ix3 n 0 d) := by
  refine congrArg (V c main_call0_v13 : Vec F S64x1x1024 .f32) (funext fun a => Fin.ext ((emb4 (ptOf n) (ix3 (inPt n) 0 d) a).trans ?_))
  match a with
  | 0 => show n.val / 8 * 8 + n.val % 8 = n.val; omega
  | 1 => rfl
  | 2 => show 0 * 1024 + d.val = d.val; omega

end Cert.KernelIdeal.Run
end
-- ==== Proof.KernelIdeal.Vals.lean ====
module

public import proofs.«01_k».proof.Proof.KernelIdeal.Region0
public import proofs.«01_k».proof.Proof.KernelIdeal.Arrays1
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# The buffers through the program

What each region leaves, as a function of what the launch was given, and the valuations of the generated module at
those contents: after a region, its arrays hold what the region's proof data says and every other buffer is kept.
-/

variable (m : (ℓ : Loc nD τ sig) → Buf (Elt F) ℓ)

/-- The buffers after the first region. -/
def W2 (c : Dev nD) : Valuation τ sig (Elt F) := Pipeline.afterRegion (dat0 (V1 m) c) (V1 m c)

/-- What the first region leaves. -/
def outsA : Outs (F := F) := fun _ r c => W2 m c r

/-- The buffers after the second region. -/
def W4 (c : Dev nD) : Valuation τ sig (Elt F) := Pipeline.afterRegion (dat1 (V3 m (outsA m)) c) (V3 m (outsA m) c)

/-- What the first two regions leave. -/
def outsB : Outs (F := F) := fun J r c => match J with
  | 2 => W2 m c r
  | _ => W4 m c r

/-- The buffers after the third region. -/
def W6 (c : Dev nD) : Valuation τ sig (Elt F) := Pipeline.afterRegion (dat2 (V5 m (outsB m)) c) (V5 m (outsB m) c)

/-- What the three regions leave. -/
def outs : Outs (F := F) := fun J r c => match J with
  | 2 => W2 m c r
  | 4 => W4 m c r
  | _ => W6 m c r

theorem V3_outs (c : Dev nD) : V3 m (outs m) c = V3 m (outsA m) c := rfl
theorem V5_outs (c : Dev nD) : V5 m (outs m) c = V5 m (outsB m) c := rfl

/-- A valuation that agrees with `G` off a list agrees with it off the list's tail once its head is updated to `G`. -/
theorem agree_update {V G : Valuation τ sig (Elt F)} {x : Ref sig .tc} {l : List (Ref sig .tc)}
    (h : ∀ r : Ref sig .tc, r ∉ x :: l → V r = G r) (r : Ref sig .tc) (hr : r ∉ l) :
    Function.update V (Proc.devRef .tc x) (G (Proc.devRef .tc x)) r = G r := by
  by_cases e : r = x
  · subst e; exact Function.update_self _ _ _
  · exact (Function.update_of_ne (StableHlo.devRef_ne_of_ne e) _ _).trans (h r (by simp [e, hr]))

set_option backward.isDefEq.respectTransparency.types false in
theorem W2_eq (c : Dev nD) (r : Ref sig .tc) : V2 m (outs m) c r = W2 m c r :=
  agree_update (G := W2 m c) (agree_update (G := W2 m c) (agree_update (G := W2 m c) (agree_update (G := W2 m c)
    (agree_update (G := W2 m c) (agree_update (G := W2 m c) (fun r hr =>
      (Pipeline.afterRegion_keeps (dat0 (V1 m) c) (V1 m c) launch0.win.arr_inj (fun _ => rfl) r (fun w e => by
        subst e; revert hr; revert w; decide +kernel)).symm))))))
    r List.not_mem_nil

set_option backward.isDefEq.respectTransparency.types false in
theorem W4_eq (c : Dev nD) (r : Ref sig .tc) : V4 m (outs m) c r = W4 m c r :=
  agree_update (G := W4 m c) (agree_update (G := W4 m c) (fun r hr =>
      (Pipeline.afterRegion_keeps (dat1 (V3 m (outsA m)) c) (V3 m (outsA m) c) launch1.win.arr_inj (fun _ => rfl) r (fun w e => by
        subst e; revert hr; revert w; decide +kernel)).symm))
    r List.not_mem_nil

set_option backward.isDefEq.respectTransparency.types false in
theorem W6_eq (c : Dev nD) (r : Ref sig .tc) : V6 m (outs m) c r = W6 m c r :=
  agree_update (G := W6 m c) (fun r hr =>
      (Pipeline.afterRegion_keeps (dat2 (V5 m (outsB m)) c) (V5 m (outsB m) c) launch2.win.arr_inj (fun _ => rfl) r (fun w e => by
        subst e; revert hr; revert w; decide +kernel)).symm)
    r List.not_mem_nil

end Cert.KernelIdeal.Run

end
-- ==== Proof.KernelIdeal.Values.lean ====
module

public import proofs.«01_k».proof.Proof.KernelIdeal.Vals
public import Idealize.ShloMosaic.Lib.WordArith

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# What the buffers between the regions hold

The five reshapes before the second region and the two before the third, and the four results at the end.
-/

variable (m : (ℓ : Loc nD τ sig) → Buf (Elt F) ℓ)

theorem V2_x (c : Dev nD) : V2 m (outs m) c main_call0_v8_0 = xV (V1 m) c :=
  (W2_eq m c main_call0_v8_0).trans ((Pipeline.afterRegion_arr (dat0 (V1 m) c) (V1 m c) launch0.win.arr_inj 7).trans (arr0_7 (V1 m) c))
theorem V2_p (c : Dev nD) : V2 m (outs m) c main_call0_v8_1 = pV (V1 m) c :=
  (W2_eq m c main_call0_v8_1).trans ((Pipeline.afterRegion_arr (dat0 (V1 m) c) (V1 m c) launch0.win.arr_inj 8).trans (arr0_8 (V1 m) c))
theorem V2_len (c : Dev nD) : V2 m (outs m) c main_call0_v8_2 = lenV (V1 m) c :=
  (W2_eq m c main_call0_v8_2).trans ((Pipeline.afterRegion_arr (dat0 (V1 m) c) (V1 m c) launch0.win.arr_inj 9).trans (arr0_9 (V1 m) c))
theorem V2_ws (c : Dev nD) : V2 m (outs m) c main_v0_2 = wsV (V1 m) c :=
  (W2_eq m c main_v0_2).trans ((Pipeline.afterRegion_arr (dat0 (V1 m) c) (V1 m c) launch0.win.arr_inj 10).trans (arr0_10 (V1 m) c))
theorem V2_we (c : Dev nD) : V2 m (outs m) c main_v0_3 = weV (V1 m) c :=
  (W2_eq m c main_v0_3).trans ((Pipeline.afterRegion_arr (dat0 (V1 m) c) (V1 m c) launch0.win.arr_inj 11).trans (arr0_11 (V1 m) c))
theorem V2_cs (c : Dev nD) : V2 m (outs m) c main_call0_v8_5 = csV (V1 m) c :=
  (W2_eq m c main_call0_v8_5).trans ((Pipeline.afterRegion_arr (dat0 (V1 m) c) (V1 m c) launch0.win.arr_inj 12).trans (arr0_12 (V1 m) c))

theorem V3_cs (c : Dev nD) : V3 m (outs m) c main_call0_v9 = shapeCast S64 (csV (V1 m) c) shapeCasts_S64x1_S64 := by
  rw [← V2_cs]
  show StableHlo.after hostOps1 (V2 m (outs m) c) (Proc.devRef .tc main_call0_v9) = _
  generalize V2 m (outs m) c = V
  after_results; rfl
theorem V3_ws (c : Dev nD) : V3 m (outs m) c main_call0_v10 = shapeCast S64 (wsV (V1 m) c) shapeCasts_S64x1_S64 := by
  rw [← V2_ws]
  show StableHlo.after hostOps1 (V2 m (outs m) c) (Proc.devRef .tc main_call0_v10) = _
  generalize V2 m (outs m) c = V
  after_results; rfl
theorem V3_p (c : Dev nD) : V3 m (outs m) c main_call0_v11 = shapeCast S64 (pV (V1 m) c) shapeCasts_S64x1_S64 := by
  rw [← V2_p]
  show StableHlo.after hostOps1 (V2 m (outs m) c) (Proc.devRef .tc main_call0_v11) = _
  generalize V2 m (outs m) c = V
  after_results; rfl
theorem V3_len (c : Dev nD) : V3 m (outs m) c main_call0_v12 = shapeCast S64 (lenV (V1 m) c) shapeCasts_S64x1_S64 := by
  rw [← V2_len]
  show StableHlo.after hostOps1 (V2 m (outs m) c) (Proc.devRef .tc main_call0_v12) = _
  generalize V2 m (outs m) c = V
  after_results; rfl
theorem V3_x (c : Dev nD) : V3 m (outs m) c main_call0_v13 = shapeCast S64x1x1024 (xV (V1 m) c) shapeCasts_S64x1024_S64x1x1024 := by
  rw [← V2_x]
  show StableHlo.after hostOps1 (V2 m (outs m) c) (Proc.devRef .tc main_call0_v13) = _
  generalize V2 m (outs m) c = V
  after_results; rfl

theorem V4_scores (c : Dev nD) : V4 m (outs m) c main_call0_v14_0 = scoresArr (V3 m (outs m)) c :=
  (W4_eq m c main_call0_v14_0).trans ((Pipeline.afterRegion_arr (dat1 (V3 m (outsA m)) c) (V3 m (outsA m) c) launch1.win.arr_inj 5).trans
    (arr1_5 (V3 m (outsA m)) c))
theorem V4_c (c : Dev nD) : V4 m (outs m) c main_call0_v14_1 = cArr (V3 m (outs m)) c :=
  (W4_eq m c main_call0_v14_1).trans ((Pipeline.afterRegion_arr (dat1 (V3 m (outsA m)) c) (V3 m (outsA m) c) launch1.win.arr_inj 6).trans
    (arr1_6 (V3 m (outsA m)) c))

theorem V5_scores (c : Dev nD) : V5 m (outs m) c main_v0_1 = shapeCast S64x257 (scoresArr (V3 m (outs m)) c) shapeCasts_S64x1x257_S64x257 := by
  rw [← V4_scores]
  show StableHlo.after hostOps2 (V4 m (outs m) c) (Proc.devRef .tc main_v0_1) = _
  generalize V4 m (outs m) c = V
  after_results; rfl
theorem V5_c (c : Dev nD) : V5 m (outs m) c main_call0_v16 = shapeCast S64x1024 (cArr (V3 m (outs m)) c) shapeCasts_S64x1x1024_S64x1024 := by
  rw [← V4_c]
  show StableHlo.after hostOps2 (V4 m (outs m) c) (Proc.devRef .tc main_call0_v16) = _
  generalize V4 m (outs m) c = V
  after_results; rfl

theorem V6_out (c : Dev nD) : V6 m (outs m) c main_v0_0 = outV (V5 m (outs m)) c :=
  (W6_eq m c main_v0_0).trans ((Pipeline.afterRegion_arr (dat2 (V5 m (outsB m)) c) (V5 m (outsB m) c) launch2.win.arr_inj 3).trans
    (arr2_3 (V5 m (outsB m)) c))
theorem V6_scores (c : Dev nD) : V6 m (outs m) c main_v0_1 = shapeCast S64x257 (scoresArr (V3 m (outs m)) c) shapeCasts_S64x1x257_S64x257 :=
  (V6_of m (outs m) c main_v0_1 (by decide)).trans (V5_scores m c)
theorem V6_ws (c : Dev nD) : V6 m (outs m) c main_v0_2 = wsV (V1 m) c :=
  (V6_of m (outs m) c main_v0_2 (by decide)).trans <| (V5_of m (outs m) c main_v0_2 (by decide)).trans <|
    (V4_of m (outs m) c main_v0_2 (by decide)).trans <| (V3_of m (outs m) c main_v0_2 (by decide)).trans (V2_ws m c)
theorem V6_we (c : Dev nD) : V6 m (outs m) c main_v0_3 = weV (V1 m) c :=
  (V6_of m (outs m) c main_v0_3 (by decide)).trans <| (V5_of m (outs m) c main_v0_3 (by decide)).trans <|
    (V4_of m (outs m) c main_v0_3 (by decide)).trans <| (V3_of m (outs m) c main_v0_3 (by decide)).trans (V2_we m c)

theorem clip_le (a : BitVec 32) : (IntOp.minsi 1791#32 (IntOp.maxsi 0#32 a)).toNat ≤ 1791 := by
  have h := WordArith.toNat_maxsi_zero a
  have h1 := a.isLt
  have h3 : a.toInt.toNat < 2 ^ 31 := by have := BitVec.toInt_lt (x := a); omega
  rw [IntOp.minsi, BitVec.slt_eq_decide]
  generalize IntOp.maxsi 0#32 a = b at h
  have hb : b.toInt = (b.toNat : ℤ) := BitVec.toInt_eq_toNat_of_lt (by omega)
  have h0 : (1791#32).toInt = 1791 := by decide
  rw [h0, hb]
  by_cases hlt : (1791 : ℤ) < (b.toNat : ℤ)
  · rw [if_pos (by simpa using hlt)]; decide
  · rw [if_neg (by simpa using hlt)]; omega

theorem clips_le (w : IVec S64x1 32) (x : S64x1.Idx) : (k0_pay2 w x).toNat ≤ 1791 := clip_le (w x)

/-- The window starts the second region receives are clipped to the sequence. -/
theorem starts_le (c : Dev nD) (x : S64.Idx) : ((V3 m (outs m) c main_call0_v9 : Vec F S64 .i32) x : BitVec 32).toNat ≤ 1791 := by
  rw [V3_cs]
  unfold csV shapeCast
  generalize wsV (V1 m) c = w
  exact clips_le _ _

end Cert.KernelIdeal.Run

end
-- ==== Proof.KernelIdeal.Records.lean ====
module

public import proofs.«01_k».proof.Proof.KernelIdeal.Values
public import Idealize.ShloMosaic.Lib.Pipeline.RegionArraysD

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# The three regions as segments of the launch

Each region is entered from the unscoped buffers at the valuation before it and left with them at the valuation after
it. Beside the buffers ride the random-number register and what the core owes, which is nothing.
-/

/-- Every wait of a TensorCore may be recorded; -/
abbrev L : GSem nD τ sig → Finset Unit := fun g => if g.1.2 = .tc then {()} else ∅
/-- at one level, since no core owes another anything. -/
abbrev lv : GSem nD τ sig → Unit → ℕ := fun _ _ => 0

theorem L_off (g : GSem nD τ sig) (h : g.1.2 ≠ .tc) : L g = ∅ := if_neg h

theorem cut (p : Fin 3) : Pipeline.LevelCut (pcfgs (F := F)) adm () L lv p (fun _ => 0) (fun _ => 0) where
  hι _ _ _ := by simp [L]
  hιb _ _ _ := le_refl _
  hD _ _ _ h := absurd h (lt_irrefl _)

variable (m : (ℓ : Loc nD τ sig) → Buf (Elt F) ℓ)

/-- The three regions' proof data. -/
def pdats : (p : Fin 3) → (c : Dev nD) → Dat τ (Elt F) Unit ℕ UU ℕ (cfgs p) c
  | 0 => dat0 (V1 m)
  | 1 => dat1 (V3 m (outs m))
  | 2 => dat2 (V5 m (outs m))

/-- What rides beside the buffers. -/
abbrev rest (c : Dev nD) : sProp 𝕄 :=
  iprop((∃ r, prngReg c r) ∗ ∃ W, owes (c : Thread nD τ) (0 : CellTallies nD τ sig Unit) W)

/-- What rides between the segments. -/
abbrev E : Fin 4 → Dev nD → sProp 𝕄 := fun _ c => rest c

theorem held_eq {V V' : Valuation τ sig (Elt F)} (c : Dev nD) (h : ∀ r : Ref sig .tc, V r = V' r) :
    (StableHlo.held (c : Thread nD τ) (Pipeline.ucRefs τ sig) V : sProp 𝕄) = StableHlo.held (c : Thread nD τ) (Pipeline.ucRefs τ sig) V' :=
  StableHlo.held_congr _ fun b hb => by
    obtain ⟨r, -, rfl⟩ := Finset.mem_map.mp (Finset.mem_filter.mp hb).1
    exact h r

theorem arrs_sub0 : Pipeline.arrRefs (τ := τ) spec0 ⊆ Pipeline.ucRefs τ sig := by decide +kernel
theorem arrs_sub1 : Pipeline.arrRefs (τ := τ) spec1 ⊆ Pipeline.ucRefs τ sig := by decide +kernel
theorem arrs_sub2 : Pipeline.arrRefs (τ := τ) spec2 ⊆ Pipeline.ucRefs τ sig := by decide +kernel

/-- A region's scoped buffers, alone, are its whole invariant. -/
theorem alone_in (P : sProp 𝕄) : iprop(P ∗ BI.emp) ⊢ P := by iintro ⟨H, -⟩; iexact H
theorem alone_out (P : sProp 𝕄) : P ⊢ iprop(P ∗ BI.emp) := by
  iintro H
  isplitl [H]; · iexact H
  iempintro

theorem entry0 (c : Dev nD) : iprop(Pipeline.scopedRest (Ix := Unit) (Name := ℕ) (U := UU) (Lvl := ℕ) (Val := Elt F) spec0 c ∗ BI.emp)
    ⊢ (rest0 c : sProp 𝕄) := alone_in (rest0 c)
theorem exit0 (c : Dev nD) : (rest0 c : sProp 𝕄)
    ⊢ iprop(Pipeline.scopedRest (Ix := Unit) (Name := ℕ) (U := UU) (Lvl := ℕ) (Val := Elt F) spec0 c ∗ BI.emp) := alone_out (rest0 c)

set_option backward.isDefEq.respectTransparency.types false in
/-- The first region. -/
def R0 : Pipeline.RegionSeg (pcfgs (F := F)) adm (pdats m) () defs₀ Variants.none L lv 0 :=
  Pipeline.RegionSeg.ofHeldIn pcfgs adm (pdats m) () defs₀ Variants.none L lv 0 (fun _ => 0) (Pipeline.ucRefs τ sig)
    (fun _ => BI.emp) (fun _ => BI.emp) launch0.toP rfl (fun c => (body0 (V1 m) c).loose) (fun _ _ => rfl) (fun _ => rfl)
    (fun c w => (dat0 (V1 m) c).share_full (fun _ => rfl) w) entry0 exit0
    (fun _ => 0) (cut 0) (fun c => iprop(∃ r, prngReg c r)) (V1 m) (fun _ _ => rfl)

theorem entry2 (c : Dev nD) : iprop(Pipeline.scopedRest (Ix := Unit) (Name := ℕ) (U := UU) (Lvl := ℕ) (Val := Elt F) spec2 c ∗ BI.emp)
    ⊢ (rest2 c : sProp 𝕄) := alone_in (rest2 c)
theorem exit2 (c : Dev nD) : (rest2 c : sProp 𝕄)
    ⊢ iprop(Pipeline.scopedRest (Ix := Unit) (Name := ℕ) (U := UU) (Lvl := ℕ) (Val := Elt F) spec2 c ∗ BI.emp) := alone_out (rest2 c)

set_option backward.isDefEq.respectTransparency.types false in
/-- The third region. -/
def R2 : Pipeline.RegionSeg (pcfgs (F := F)) adm (pdats m) () defs₀ Variants.none L lv 2 :=
  Pipeline.RegionSeg.ofHeldIn pcfgs adm (pdats m) () defs₀ Variants.none L lv 2 (fun _ => 0) (Pipeline.ucRefs τ sig)
    (fun _ => BI.emp) (fun _ => BI.emp) launch2.toP rfl (fun c => (body2 (V5 m (outs m)) c).loose) (fun _ _ => rfl) (fun _ => rfl)
    (fun c w => (dat2 (V5 m (outs m)) c).share_full (fun _ => rfl) w) entry2 exit2
    (fun _ => 0) (cut 2) (fun c => iprop(∃ r, prngReg c r)) (V5 m (outs m)) (fun _ _ => rfl)

/-- The second region's invariant before its first point. -/
theorem entry1 (c : Dev nD) :
    iprop(Pipeline.scopedRest (Ix := Unit) (Name := ℕ) (U := UU) (Lvl := ℕ) (Val := Elt F) spec1 c ∗ (∃ r, prngReg c r)
      ∗ Pipeline.ownSems0 (Ix := Unit) (Name := ℕ) (U := UU) (Lvl := ℕ) (Val := Elt F) (τ := τ) osem1 c
      ∗ (bigSep ({main_arg1} : Finset (Ref sig .tc)) fun b => ((c.tc : Thread nD τ).loc b) ↦{fullShare} V3 m (outs m) c (Proc.devRef .tc b))
      ∗ Transfers.MayWaits (c : Thread nD τ) () (0 : CellTallies nD τ sig Unit))
    ⊢ (Φ1 (V3 m (outs m)) c 0 : sProp 𝕄) := by
  unfold Φ1 ring
  rw [scoped1, if_pos rfl, BI.bigSep_singleton]
  iintro ⟨⟨Hs, Hr⟩, Hp, Ho, Ha, -⟩
  ihave ⟨Hf, Hd⟩ := (frees_in c (V3 m (outs m) c main_arg1)) $$ [Hs Ho Ha]
  · iframe
  iframe

/-- The second region's invariant after its last point. -/
theorem exit1 (c : Dev nD) :
    (Φ1 (V3 m (outs m)) c 8 : sProp 𝕄)
    ⊢ iprop(Pipeline.scopedRest (Ix := Unit) (Name := ℕ) (U := UU) (Lvl := ℕ) (Val := Elt F) spec1 c ∗ (∃ r, prngReg c r)
      ∗ Pipeline.ownSems0 (Ix := Unit) (Name := ℕ) (U := UU) (Lvl := ℕ) (Val := Elt F) (τ := τ) osem1 c
      ∗ (bigSep ({main_arg1} : Finset (Ref sig .tc)) fun b => ((c.tc : Thread nD τ).loc b) ↦{fullShare} V3 m (outs m) c (Proc.devRef .tc b))) := by
  unfold Φ1
  rw [scoped1, BI.bigSep_singleton]
  iintro ⟨Hr, Hp, Hd, Hf⟩
  ihave Hf := (ring_last c (V3 m (outs m) c main_arg1) (V3 m (outs m) c main_call0_v9)) $$ Hf
  ihave ⟨Hs, Ho, Ha⟩ := (frees_out c (V3 m (outs m) c main_arg1) (V3 m (outs m) c cc1_scratch0)) $$ [Hf Hd]
  · iframe
  iframe

/-- The other buffers than the second region's arrays. -/
abbrev others1 : Finset (DevRef τ sig) := Pipeline.ucRefs τ sig \ Pipeline.arrRefs spec1

theorem arg1_sub : Pipeline.hbmRefs (τ := τ) ({main_arg1} : Finset (Ref sig .tc)) ⊆ others1 := by decide +kernel

set_option backward.isDefEq.respectTransparency.types false in
/-- The second region. -/
def R1 : Pipeline.RegionSeg (pcfgs (F := F)) adm (pdats m) () defs₀ Variants.none L lv 1 :=
  Pipeline.RegionSeg.ofHeldDH pcfgs adm (pdats m) () defs₀ Variants.none L lv 1 (fun _ => 0) () osem1 osem1_facts
    {main_arg1} others1 arg1_sub launch1.toP rfl (fun c => (body1 (V3 m (outs m)) (starts_le m) c).loose) (fun _ _ => rfl) (fun _ => rfl)
    (fun c w => (dat1 (V3 m (outs m)) c).share_full (fun _ => rfl) w)
    (fun c => Transfers.MayWaits.intro fun sm => by rw [MayWait_zero]; iintro -; iempintro)
    (V3 m (outs m)) (fun c => Pipeline.afterRegion (pdats m 1 c) (V3 m (outs m) c)) (entry1 m) (exit1 m)
    (fun _ => 0) (cut 1) (fun _ => BI.emp) (fun _ _ => rfl)
    (fun c w => (Pipeline.afterRegion_arr (dat1 (V3 m (outs m)) c) (V3 m (outs m) c) launch1.win.arr_inj w).symm)

/-! ## The links between the segments -/

set_option backward.isDefEq.respectTransparency.types false in
theorem pre0 (c : Dev nD) : iprop(StableHlo.held (c : Thread nD τ) (Pipeline.ucRefs τ sig) (V1 m c) ∗ E (F := F) 0 c) ⊢ (R0 m).pre c := by
  rw [StableHlo.held_sub_split (c : Thread nD τ) arrs_sub0 (V1 m c)]
  show _ ⊢ iprop(StableHlo.held (c.tc : Thread nD τ) (Pipeline.arrRefs spec0) (V1 m c) ∗ BI.emp ∗ (StableHlo.held (c.tc : Thread nD τ) (Pipeline.ucRefs τ sig \ Pipeline.arrRefs spec0) (V1 m c) ∗ ∃ r, prngReg c r)
    ∗ ∃ Wd, owes (c : Thread nD τ) (0 : CellTallies nD τ sig Unit) Wd)
  iintro ⟨⟨Ha, Hu⟩, Hp, HO⟩
  isplitl [Ha]; · iexact Ha
  isplitr; · iempintro
  isplitl [Hu Hp]
  · isplitl [Hu]; · iexact Hu
    iexact Hp
  iexact HO

set_option backward.isDefEq.respectTransparency.types false in
theorem post0 (c : Dev nD) : (R0 m).post c ⊢ iprop(StableHlo.held (c : Thread nD τ) (Pipeline.ucRefs τ sig) (V2 m (outs m) c) ∗ E (F := F) 1 c) := by
  rw [held_eq c (W2_eq m c), StableHlo.held_sub_split (c : Thread nD τ) arrs_sub0 (W2 m c),
    StableHlo.held_congr (c : Thread nD τ) (S := Pipeline.ucRefs τ sig \ Pipeline.arrRefs spec0) (V := W2 m c)
      (V' := V1 m c) (Pipeline.afterRegion_off (dat0 (V1 m) c) (V1 m c) _)]
  show iprop(StableHlo.held (c.tc : Thread nD τ) (Pipeline.arrRefs spec0) (W2 m c) ∗ BI.emp ∗ (StableHlo.held (c.tc : Thread nD τ) (Pipeline.ucRefs τ sig \ Pipeline.arrRefs spec0) (V1 m c) ∗ ∃ r, prngReg c r)
    ∗ ∃ Wd, owes (c : Thread nD τ) (0 : CellTallies nD τ sig Unit) Wd) ⊢ _
  iintro ⟨Ha, -, ⟨Hu, Hp⟩, HO⟩
  isplitl [Ha Hu]
  · isplitl [Ha]; · iexact Ha
    iexact Hu
  isplitl [Hp]; · iexact Hp
  iexact HO

set_option backward.isDefEq.respectTransparency.types false in
theorem pre2 (c : Dev nD) : iprop(StableHlo.held (c : Thread nD τ) (Pipeline.ucRefs τ sig) (V5 m (outs m) c) ∗ E (F := F) 2 c) ⊢ (R2 m).pre c := by
  rw [StableHlo.held_sub_split (c : Thread nD τ) arrs_sub2 (V5 m (outs m) c)]
  show _ ⊢ iprop(StableHlo.held (c.tc : Thread nD τ) (Pipeline.arrRefs spec2) (V5 m (outs m) c) ∗ BI.emp ∗ (StableHlo.held (c.tc : Thread nD τ) (Pipeline.ucRefs τ sig \ Pipeline.arrRefs spec2) (V5 m (outs m) c) ∗ ∃ r, prngReg c r)
    ∗ ∃ Wd, owes (c : Thread nD τ) (0 : CellTallies nD τ sig Unit) Wd)
  iintro ⟨⟨Ha, Hu⟩, Hp, HO⟩
  isplitl [Ha]; · iexact Ha
  isplitr; · iempintro
  isplitl [Hu Hp]
  · isplitl [Hu]; · iexact Hu
    iexact Hp
  iexact HO

set_option backward.isDefEq.respectTransparency.types false in
theorem post2 (c : Dev nD) : (R2 m).post c ⊢ iprop(StableHlo.held (c : Thread nD τ) (Pipeline.ucRefs τ sig) (V6 m (outs m) c) ∗ E (F := F) 3 c) := by
  rw [held_eq c (W6_eq m c), StableHlo.held_sub_split (c : Thread nD τ) arrs_sub2 (W6 m c),
    StableHlo.held_congr (c : Thread nD τ) (S := Pipeline.ucRefs τ sig \ Pipeline.arrRefs spec2) (V := W6 m c)
      (V' := V5 m (outs m) c) (Pipeline.afterRegion_off (dat2 (V5 m (outs m)) c) (V5 m (outs m) c) _)]
  show iprop(StableHlo.held (c.tc : Thread nD τ) (Pipeline.arrRefs spec2) (W6 m c) ∗ BI.emp ∗ (StableHlo.held (c.tc : Thread nD τ) (Pipeline.ucRefs τ sig \ Pipeline.arrRefs spec2) (V5 m (outs m) c) ∗ ∃ r, prngReg c r)
    ∗ ∃ Wd, owes (c : Thread nD τ) (0 : CellTallies nD τ sig Unit) Wd) ⊢ _
  iintro ⟨Ha, -, ⟨Hu, Hp⟩, HO⟩
  isplitl [Ha Hu]
  · isplitl [Ha]; · iexact Ha
    iexact Hu
  isplitl [Hp]; · iexact Hp
  iexact HO

set_option backward.isDefEq.respectTransparency.types false in
theorem pre1 (c : Dev nD) : iprop(StableHlo.held (c : Thread nD τ) (Pipeline.ucRefs τ sig) (V3 m (outs m) c) ∗ E (F := F) 1 c) ⊢ (R1 m).pre c := by
  rw [StableHlo.held_sub_split (c : Thread nD τ) arrs_sub1 (V3 m (outs m) c)]
  show _ ⊢ iprop(StableHlo.held (c.tc : Thread nD τ) (Pipeline.arrRefs spec1) (V3 m (outs m) c) ∗ (∃ r, prngReg c r)
    ∗ (StableHlo.held (c.tc : Thread nD τ) others1 (V3 m (outs m) c) ∗ BI.emp) ∗ ∃ Wd, owes (c : Thread nD τ) (0 : CellTallies nD τ sig Unit) Wd)
  iintro ⟨⟨Ha, Hu⟩, Hp, HO⟩
  isplitl [Ha]; · iexact Ha
  isplitl [Hp]; · iexact Hp
  isplitl [Hu]
  · isplitl [Hu]; · iexact Hu
    iempintro
  iexact HO

set_option backward.isDefEq.respectTransparency.types false in
theorem post1 (c : Dev nD) : (R1 m).post c ⊢ iprop(StableHlo.held (c : Thread nD τ) (Pipeline.ucRefs τ sig) (V4 m (outs m) c) ∗ E (F := F) 2 c) := by
  rw [held_eq c (W4_eq m c), StableHlo.held_sub_split (c : Thread nD τ) arrs_sub1 (W4 m c),
    StableHlo.held_congr (c : Thread nD τ) (S := Pipeline.ucRefs τ sig \ Pipeline.arrRefs spec1) (V := W4 m c)
      (V' := V3 m (outs m) c) (Pipeline.afterRegion_off (dat1 (V3 m (outs m)) c) (V3 m (outs m) c) _)]
  show iprop(StableHlo.held (c.tc : Thread nD τ) (Pipeline.arrRefs spec1) (W4 m c) ∗ (∃ r, prngReg c r)
    ∗ (StableHlo.held (c.tc : Thread nD τ) others1 (V3 m (outs m) c) ∗ BI.emp) ∗ ∃ Wd, owes (c : Thread nD τ) (0 : CellTallies nD τ sig Unit) Wd) ⊢ _
  iintro ⟨Ha, Hp, ⟨Hu, -⟩, HO⟩
  isplitl [Ha Hu]
  · isplitl [Ha]; · iexact Ha
    iexact Hu
  isplitl [Hp]; · iexact Hp
  iexact HO

end Cert.KernelIdeal.Run

end
-- ==== Proof.KernelIdeal.Launched.lean ====
module

public import proofs.«01_k».proof.Proof.KernelIdeal.Records

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ UU ℕ

/-!
# The whole program

From any memory with zero counters every run of the program ends with zero counters and with every unscoped buffer at
the last valuation: the arguments as launched, the four results at what the regions computed.
-/

variable (m : (ℓ : Loc nD τ sig) → Buf (Elt F) ℓ)

/-- The regions' staging cells are the left component of the resources. -/
abbrev EP : Emb (UR sig nD τ) 𝕄 := embL

/-- The launch element: the regions' staging cells at launch; no counter of a transfer yet. -/
def u₀ : UU := (initOf (Pipeline.cells cfgs cellOf_inj) (Pipeline.launchToks cfgs cellOf_inj), 1)

theorem hu₀ : (ownU u₀ : sProp 𝕄) ⊢ |={Set.univ}=> iprop(BI.own (EP (initOf (Pipeline.cells cfgs cellOf_inj) (Pipeline.launchToks cfgs cellOf_inj)))
    ∗ bigSep (Finset.univ : Finset (Dev nD)) fun _ => (BI.emp : sProp 𝕄)) := by
  unfold u₀
  iintro Hu
  ihave H := (ownU_pair _ _) $$ Hu
  icases H with ⟨H, -⟩
  imodintro
  isplitl [H]; · iexact H
  rw [BI.bigSep_emp_const]
  iempintro

/-- The buffers hold the last valuation. -/
def Final (s : MemSt nD τ sig (Elt F)) : Prop :=
  ∀ c : Dev nD, ∀ b ∈ Pipeline.ucRefs τ sig, s.mem (c, b) = V6 m (outs m) c b

/-- The launch gives every core its random-number register and nothing owed. -/
theorem launch_rest (ρ : Dev nD → PrngReg) :
    iprop((bigSep Finset.univ fun c : Dev nD => iprop(unscopedSems0 c ∗ owes (c : Thread nD τ) (0 : CellTallies nD τ sig Unit) ∅
      ∗ Pipeline.launchCred (fun _ => (0 : CellTallies nD τ sig Unit)) c ∗ prngReg c (ρ c) ∗ (BI.emp : sProp 𝕄))) ∗ levAts L lv)
    ⊢ (|={Set.univ}=> bigSep Finset.univ (E 0) : sProp 𝕄) := by
  have h : ∀ c : Dev nD, iprop(unscopedSems0 c ∗ owes (c : Thread nD τ) (0 : CellTallies nD τ sig Unit) ∅
      ∗ Pipeline.launchCred (fun _ => (0 : CellTallies nD τ sig Unit)) c ∗ prngReg c (ρ c) ∗ (BI.emp : sProp 𝕄)) ⊢ (E 0 c : sProp 𝕄) := fun c => by
    iintro ⟨-, HO, -, Hp, -⟩
    isplitl [Hp]; · iexists _; iexact Hp
    iexists _; iexact HO
  iintro ⟨H, -⟩
  imodintro
  iapply (show (bigSep Finset.univ fun c : Dev nD => iprop(unscopedSems0 c ∗ owes (c : Thread nD τ) (0 : CellTallies nD τ sig Unit) ∅
      ∗ Pipeline.launchCred (fun _ => (0 : CellTallies nD τ sig Unit)) c ∗ prngReg c (ρ c) ∗ (BI.emp : sProp 𝕄)))
      ⊢ (bigSep Finset.univ (E 0) : sProp 𝕄) from bigSep_mono fun c _ => h c)
  iexact H

set_option backward.isDefEq.respectTransparency.types false in
theorem run (ρ : Dev nD → PrngReg) :
    θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj EP defs₀ Variants.none L lv m ρ main
    (segs m (outs m) Variants.none L lv E () (pdats m) (R0 m) (R1 m) (R2 m))
    (fun c Q => by
      rewrite [main_chain c, Seg.run_eq_chain]
      exact .rfl)
    (fun c => by simp only [segs, Seg.pipes_host, Seg.pipes_region, Seg.pipes_nil]; decide)
    (fun _ => 0) L_off (fun _ => BI.emp) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, pre0 m c, post0 m c, pre1 m c, post1 m c, pre2 m c, (post2 m c).trans (sep_mono .rfl (by
      iintro ⟨-, HO⟩; iexact HO))⟩)
    (hinit := ?_) (QY := fun c s => ∀ b ∈ Pipeline.ucRefs τ sig, s.mem (c, b) = V6 m (outs m) c b)
    (hfin := fun c s => ?_) (hQ := fun _ h hz => ⟨h, funext fun g => hz g (.inr (regions_no_unscoped g.2))⟩)
  · have hpart : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => (0 : CellTallies nD τ sig Unit)) c ∗ prngReg c (ρ c) ∗ (BI.emp : sProp 𝕄))) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    have hjoin : iprop((bigSep Finset.univ fun c : Dev nD => (StableHlo.held (c : Thread nD τ) (Pipeline.ucRefs τ sig) (V0 m c) : sProp 𝕄)) ∗ bigSep Finset.univ (E 0))
        ⊢ (bigSep Finset.univ fun c : Dev nD => iprop(StableHlo.held (c : Thread nD τ) (Pipeline.ucRefs τ sig) (V0 m c) ∗ E 0 c) : sProp 𝕄) :=
      Entails.of_eq (bigSep_sep' _ _ _).symm
    iintro ⟨H, Hl⟩
    ihave H := hpart $$ H
    icases H with ⟨Hh, Hr⟩
    imod (launch_rest ρ) $$ [Hr Hl] with HE
    · isplitl [Hr]; · iexact Hr
      iexact Hl
    imodintro
    iapply hjoin
    isplitl [Hh]; · iexact Hh
    iexact HE
  · unfold StableHlo.held
    iintro ⟨Hh, HSI⟩
    ihave Hr := (pointsTo_read_all (Pipeline.ucRefs τ sig) (fun b => ((c : Thread nD τ).1, b)) (V6 m (outs m) c) s) $$ [Hh HSI]
    · isplitl [Hh] <;> iassumption
    icases Hr with ⟨%h, HSI⟩
    imodintro
    isplitr
    · ipureintro; exact h
    · iexact HSI

/-- An unscoped buffer at the end. -/
theorem Final.at {s : MemSt nD τ sig (Elt F)} (h : Final m s) (c : Dev nD) (r : Ref sig .tc) (hr : (Proc.devRef .tc r : DevRef τ sig).isScoped = false) :
    s.mem ((c.tc : Thread nD τ).loc r) = V6 m (outs m) c r :=
  h c (Proc.devRef .tc r) (Finset.mem_filter.mpr ⟨StableHlo.devRef_mem_tcRefs r, by rw [hr]; exact Bool.false_ne_true⟩)

/-- The arguments are as launched. -/
theorem Final.args {s : MemSt nD τ sig (Elt F)} (h : Final m s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8) :=
  ⟨(h.at m c main_arg0 rfl).trans (V6_main_arg0 m (outs m) c),
    (h.at m c main_arg1 rfl).trans (V6_main_arg1 m (outs m) c),
    (h.at m c main_arg2 rfl).trans (V6_main_arg2 m (outs m) c),
    (h.at m c main_arg3 rfl).trans (V6_main_arg3 m (outs m) c),
    (h.at m c main_arg4 rfl).trans (V6_main_arg4 m (outs m) c),
    (h.at m c main_arg5 rfl).trans (V6_main_arg5 m (outs m) c),
    (h.at m c main_arg6 rfl).trans (V6_main_arg6 m (outs m) c),
    (h.at m c main_arg7 rfl).trans (V6_main_arg7 m (outs m) c),
    (h.at m c main_arg8 rfl).trans (V6_main_arg8 m (outs m) c)⟩

/-- The results are what the regions computed. -/
theorem Final.results {s : MemSt nD τ sig (Elt F)} (h : Final m s) (c : Dev nD) :
    s.mem ((c.tc : Thread nD τ).loc main_v0_0) = outV (V5 m (outs m)) c
    ∧ s.mem ((c.tc : Thread nD τ).loc main_v0_1) = shapeCast S64x257 (scoresArr (V3 m (outs m)) c) shapeCasts_S64x1x257_S64x257
    ∧ s.mem ((c.tc : Thread nD τ).loc main_v0_2) = wsV (V1 m) c
    ∧ s.mem ((c.tc : Thread nD τ).loc main_v0_3) = weV (V1 m) c :=
  ⟨(h.at m c main_v0_0 rfl).trans (V6_out m c), (h.at m c main_v0_1 rfl).trans (V6_scores m c),
    (h.at m c main_v0_2 rfl).trans (V6_ws m c), (h.at m c main_v0_3 rfl).trans (V6_we m c)⟩

end Cert.KernelIdeal.Run

end
-- ==== Proof.Equal.Prep.lean ====
module

public import proofs.«01_k».proof.Proof.Gen.KernelIdeal.Skeleton
public import proofs.«01_k».proof.Proof.Gen.ReferenceIdeal.Read
public import Idealize.ShloMosaic.Lib.Pointwise
public import Idealize.ShloMosaic.Lib.Routing.OpsOne

@[expose] public section

set_option maxRecDepth 16384

noncomputable section

namespace Cert.Equal

open Idealize.ShloMosaic Idealize.ShloMosaic.TcCoe Idealize.SL.Sem
open Cert.KernelIdeal Cert.KernelIdeal.Gen Cert.ReferenceIdeal.Read

variable (x0 : FVec Ideal S64x1024 .f32) (x1 : FVec Ideal S2048x64x1024 .f32) (x2 : IVec S2048x64 1) (x3 : FVec Ideal S1024x1024 .f32)
  (x4 : FVec Ideal S1024x2048 .f32) (x5 : FVec Ideal S512x1024 .f32) (x6 : FVec Ideal S512 .f32) (x7 : FVec Ideal S1x512 .f32) (x8 : FVec Ideal S1 .f32)

/-- The mask as ones and zeros, one row to a sequence, as the host hands it to the first region. -/
def maskT : FVec Ideal S64x2048 .f32 :=
  transpose S64x2048 [1, 0] (select x2 (broadcastInDim S2048x64 ![] bcast_S_S2048x64 (constant S_ .f32 0x00000000#32 : FVec Ideal S_ .f32))
    (broadcastInDim S2048x64 ![] bcast_S_S2048x64 (constant S_ .f32 0x3F800000#32 : FVec Ideal S_ .f32))) transposes_S2048x64_S64x2048_1_0

theorem x_eq : k0_pay4 (F := Ideal) x0 x3 = val_main_v7 (F := Ideal) x0 x3 := by
  funext j
  pointwise! [k0_pay4, val_main_v7, val_main_v6]

/-- A count of words, each one or zero, does not overflow: its value is the sum of the values. -/
theorem count_words {ι : Type} (b : ι → BitVec 1) (s : Finset ι) (hs : s.card < 2 ^ 31) :
    (s.fold IntOp.addi (0#32) fun k => Scalar.select (~~~b k) (1#32) (0#32)).toInt = ((∑ k ∈ s, if b k = 1#1 then 0 else 1 : ℕ) : ℤ) := by
  classical
  have key : ∀ t : Finset ι, t.card < 2 ^ 31 → (t.fold IntOp.addi (0#32) fun k => Scalar.select (~~~b k) (1#32) (0#32)).toNat = (∑ k ∈ t, if b k = 1#1 then 0 else 1)
      ∧ (∑ k ∈ t, if b k = 1#1 then 0 else 1) ≤ t.card := by
    intro t
    induction t using Finset.induction_on with
    | empty => intro _; exact ⟨rfl, le_refl _⟩
    | insert a t ha ih =>
      intro hc
      rw [Finset.card_insert_of_notMem ha] at hc ⊢
      obtain ⟨h1, h2⟩ := ih (by omega)
      rw [Finset.fold_insert ha, Finset.sum_insert ha]
      have e : (Scalar.select (~~~b a) (1#32) (0#32)).toNat = if b a = 1#1 then 0 else 1 := by
        generalize b a = v
        revert v
        decide
      have l : (if b a = 1#1 then 0 else 1) ≤ 1 := by split <;> omega
      refine ⟨?_, by omega⟩
      show (Scalar.select (~~~b a) (1#32) (0#32) + _).toNat = _
      rw [BitVec.toNat_add, h1, e]
      exact Nat.mod_eq_of_lt (by omega)
  obtain ⟨h1, h2⟩ := key s hs
  rw [BitVec.toInt_eq_toNat_of_lt (by rw [h1]; omega), h1]

theorem len_eq : k0_pay3 (F := Ideal) (maskT x2) = val_main_v5 (F := Ideal) x2 := by
  funext j
  idx_vars j
  pointwise [k0_pay3, maskT, val_main_v5, val_main_v4, val_main_v3, val_main_v2, val_main_v1, val_main_v0, val_main_call0_v0, val_main_call0_v1, val_main_c_1, val_main_c, val_main_c_0, id_eq]
  show _ = (((Finset.univ.fold IntOp.addi (0#32) fun k : Fin 2048 => Scalar.select (~~~x2 (ix2 k j0)) (1#32) (0#32)).toInt : ℝ) : EReal)
  rw [count_words (fun k : Fin 2048 => x2 (ix2 k j0)) Finset.univ (by rw [Finset.card_univ, Fintype.card_fin]; omega)]
  rw [Int.cast_natCast, EReal.coe_natCast, Nat.cast_sum]
  refine Finset.sum_congr rfl fun k _ => ?_
  generalize x2 (ix2 k j0) = v
  by_cases h : v = 1#1
  · rw [if_pos h, Nat.cast_zero]
    exact if_pos h
  · rw [if_neg h, Nat.cast_one]
    exact if_neg h

/-- The padded weight of the last layer, row zero the given one. -/
def padW : FVec Ideal S128x512 .f32 :=
  Host.scatter scatter_S128x512_S1_S512_0_0_0_0 (fun _ b => b) (broadcastInDim S128x512 ![] bcast_S_S128x512 (constant S_ .f32 0x00000000#32 : FVec Ideal S_ .f32))
    (broadcastInDim S1 ![] bcast_S_S1 (constantI S_ 32 0#32)) (shapeCast S512 x7 shapeCasts_S1x512_S512)

/-- The one row written lands in row zero, column by column. -/
theorem pad_lands (j : S512.Idx) (r : Fin 128) (k : Fin 512) :
    scatter_S128x512_S1_S512_0_0_0_0.resultIdx? j (broadcastInDim S1 ![] bcast_S_S1 (constantI S_ 32 0#32)) = some (ix2 r k) ↔ r.val = 0 ∧ (j 0).val = k.val := by
  have st : ∀ a, scatter_S128x512_S1_S512_0_0_0_0.start j (broadcastInDim S1 ![] bcast_S_S1 (constantI S_ 32 0#32)) a = 0 := fun a => by
    unfold ScatterDims.start
    split <;> rfl
  have w0 : scatter_S128x512_S1_S512_0_0_0_0.window j 0 = 0 := by
    unfold ScatterDims.window
    exact dif_neg (by decide)
  have w1 : scatter_S128x512_S1_S512_0_0_0_0.window j 1 = (j 0).val := by
    unfold ScatterDims.window
    rw [dif_pos (by decide)]
    have q : ∀ y : Fin 1, (j y).val = (j 0).val := fun y => by rw [Subsingleton.elim y 0]
    exact q _
  refine (Routing.resultIdx?_ix2 scatter_S128x512_S1_S512_0_0_0_0 j _ r k).trans ?_
  rw [st, st, w0, w1]
  omega

theorem padW_row (k : Fin 512) : padW x7 (ix2 (0 : Fin 128) k) = x7 (ix2 (0 : Fin 1) k) := by
  refine Routing.scatter_set_hit _ _ _ _ _ _ (fun j hj => ?_) (ix1 k) ((pad_lands (ix1 k) 0 k).2 ⟨rfl, rfl⟩)
  obtain ⟨-, h⟩ := (pad_lands j 0 k).1 hj
  pointwise
  exact congrArg (fun t => x7 (ix2 0 t)) (Fin.ext h)

theorem p_eq : k0_pay5 (F := Ideal) (maskT x2) x0 x3 x5 (shapeCast S1x512 x6 shapeCasts_S512_S1x512) (padW x7) (x8 (ix1 (0 : Fin 1)))
    = val_main_v30 (F := Ideal) x0 x2 x3 x5 x6 x7 x8 := by
  funext j
  idx_vars j
  pointwise [k0_pay5, len_eq, x_eq, padW_row, val_main_v30, val_main_v29, val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v8, val_main_cst, val_main_cst_2, val_main_cst_3]
  rfl

/-- The starts of the windows. -/
theorem ws_eq : k0_pay6 (F := Ideal) (maskT x2) x0 x3 x5 (shapeCast S1x512 x6 shapeCasts_S512_S1x512) (padW x7) (x8 (ix1 (0 : Fin 1)))
    = val_main_v35 (F := Ideal) x0 x2 x3 x5 x6 x7 x8 := by
  unfold k0_pay6
  rw [p_eq]
  rfl

/-- The ends of the windows. -/
theorem we_eq : k0_pay1 (val_main_v35 (F := Ideal) x0 x2 x3 x5 x6 x7 x8) = val_main_v37 (F := Ideal) x0 x2 x3 x5 x6 x7 x8 := rfl

/-- The clipped starts. -/
theorem cs_eq : shapeCast S64 (k0_pay2 (val_main_v35 (F := Ideal) x0 x2 x3 x5 x6 x7 x8)) shapeCasts_S64x1_S64 = val_main_v39 (F := Ideal) x0 x2 x3 x5 x6 x7 x8 := by
  funext j
  idx_vars j
  pointwise! [k0_pay2, val_main_v39, val_main_call2_v4, val_main_call2_v3, val_main_call2_v2, val_main_call2_v1, val_main_call2_v0, val_main_c_6, val_main_c_7, val_main_v38]

end Cert.Equal
-- ==== Proof.Equal.Window.lean ====
module

public import proofs.«01_k».proof.Proof.Equal.Prep
public import proofs.«01_k».proof.Proof.KernelIdeal.Values

@[expose] public section

set_option maxRecDepth 16384

noncomputable section

namespace Cert.Equal

open Idealize.ShloMosaic Idealize.ShloMosaic.TcCoe Idealize.SL.Sem
open Cert.KernelIdeal Cert.KernelIdeal.Gen Cert.ReferenceIdeal.Read

variable (x0 : FVec Ideal S64x1024 .f32) (x1 : FVec Ideal S2048x64x1024 .f32) (x2 : IVec S2048x64 1) (x3 : FVec Ideal S1024x1024 .f32)
  (x4 : FVec Ideal S1024x2048 .f32) (x5 : FVec Ideal S512x1024 .f32) (x6 : FVec Ideal S512 .f32) (x7 : FVec Ideal S1x512 .f32) (x8 : FVec Ideal S1 .f32)

/-!
# The window of the hidden states

The reference picks row `start + j` of each sequence by an index it first tests; the start is clipped, so the test always passes.
-/

local notation "GD" => Cert.ReferenceIdeal.gather_S64x2048x1024_S64x257x1_S64x257x1024_2_1_0_0_1_2_111024

/-- The rows picked, read at an index. -/
theorem gather_at (x : Cert.ReferenceIdeal.S64x2048x1024.Idx → EReal) (idx : IVec Cert.ReferenceIdeal.S64x257x1 32) (n : Fin 64) (j : Fin 257) (d : Fin 1024) :
    Host.gather GD x idx (ix3 n j d) = x (ix3 n ⟨min (idx (ix3 n j (0 : Fin 1))).toInt.toNat 2047, by omega⟩ d) := by
  unfold Host.gather
  congr 1
  funext a
  refine Fin.ext ?_
  show (GD).start (ix3 n j d) idx a + (GD).batchCoord (ix3 n j d) a + (GD).offCoord (ix3 n j d) a = _
  have h : a = 0 ∨ a = 1 ∨ a = 2 := by
    match a with
    | ⟨0, _⟩ => exact .inl rfl
    | ⟨1, _⟩ => exact .inr (.inl rfl)
    | ⟨2, _⟩ => exact .inr (.inr rfl)
  rcases h with rfl | rfl | rfl
  · rw [GatherDims.start_batching _ _ _ _ (show (0 : Fin 3) ∈ ([0] : List (Fin 3)) by decide), GatherDims.offCoord_eq_zero _ _ _ (by decide)]
    unfold GatherDims.batchCoord
    rw [dif_pos (show (0 : Fin Cert.ReferenceIdeal.S64x2048x1024.rank) ∈ (GD).operandBatchingDims from (by decide : (0 : Fin 3) ∈ ([0] : List (Fin 3))))]
    show 0 + n.val + 0 = n.val
    omega
  · rw [GatherDims.batchCoord_eq_zero _ _ _ (show (1 : Fin 3) ∉ ([0] : List (Fin 3)) by decide), GatherDims.offCoord_eq_zero _ _ _ (by decide)]
    unfold GatherDims.start
    rw [dif_pos (show (1 : Fin Cert.ReferenceIdeal.S64x2048x1024.rank) ∈ (GD).startIndexMap from (by decide : (1 : Fin 3) ∈ ([1] : List (Fin 3))))]
    have hsi : ∀ q, (GD).siIdx (ix3 n j d) q = ix3 n j (0 : Fin 1) := fun q => by
      funext b
      refine Fin.ext ?_
      match b with
      | ⟨0, _⟩ => rfl
      | ⟨1, _⟩ => rfl
      | ⟨2, _⟩ => exact Nat.lt_one_iff.1 q.isLt
    rw [hsi]
    rfl
  · rw [GatherDims.batchCoord_eq_zero _ _ _ (show (2 : Fin 3) ∉ ([0] : List (Fin 3)) by decide)]
    unfold GatherDims.start GatherDims.offCoord
    rw [dif_neg (show ¬(2 : Fin Cert.ReferenceIdeal.S64x2048x1024.rank) ∈ (GD).startIndexMap from (by decide : (2 : Fin 3) ∉ ([1] : List (Fin 3)))), dif_pos (show (2 : Fin Cert.ReferenceIdeal.S64x2048x1024.rank) ∈ (GD).sKept by decide)]
    show 0 + 0 + d.val = d.val
    omega

theorem row_word (w : BitVec 32) (hw : w.toNat ≤ 1791) (j : Fin 257) :
    (IntOp.addi w (BitVec.ofNat 32 j.val)).toNat = w.toNat + j.val := by
  show (w + BitVec.ofNat 32 j.val).toNat = _
  rw [BitVec.toNat_add, BitVec.toNat_ofNat]
  omega

/-- The test of the index passes, and the index picks its row. -/
theorem pick (w : BitVec 32) (hw : w.toNat ≤ 1791) (j : Fin 257) (y : Fin 2048 → EReal) (z : EReal) (h : w.toNat + j.val < 2048)
    {h2} :
    Scalar.select
        (Finset.fold IntOp.andi (1#1)
          (fun _ : Fin 1 =>
            IntOp.andi
              (IntOp.cmpi .sge
                (Scalar.select (IntOp.cmpi .slt (IntOp.addi w (BitVec.ofNat 32 j.val)) 0#32)
                  (IntOp.addi (IntOp.addi w (BitVec.ofNat 32 j.val)) 2048#32) (IntOp.addi w (BitVec.ofNat 32 j.val)))
                0#32)
              (IntOp.cmpi .sle
                (Scalar.select (IntOp.cmpi .slt (IntOp.addi w (BitVec.ofNat 32 j.val)) 0#32)
                  (IntOp.addi (IntOp.addi w (BitVec.ofNat 32 j.val)) 2048#32) (IntOp.addi w (BitVec.ofNat 32 j.val)))
                2047#32))
          Finset.univ)
        (y ⟨min (BitVec.toInt
              (Scalar.select (IntOp.cmpi .slt (IntOp.addi w (BitVec.ofNat 32 j.val)) 0#32)
                (IntOp.addi (IntOp.addi w (BitVec.ofNat 32 j.val)) 2048#32) (IntOp.addi w (BitVec.ofNat 32 j.val)))).toNat 2047, h2⟩) z
      = y ⟨w.toNat + j.val, h⟩ := by
  have e := row_word w hw j
  revert h2
  generalize IntOp.addi w (BitVec.ofNat 32 j.val) = v at e
  have hv : v.toInt = (v.toNat : ℤ) := BitVec.toInt_eq_toNat_of_lt (by omega)
  have s0 : v.slt 0#32 = false := by
    rw [BitVec.slt_eq_decide, hv]
    exact decide_eq_false (by rw [(by decide : (0#32).toInt = 0)]; omega)
  have s1 : (0#32).sle v = true := by
    rw [BitVec.sle_eq_decide, hv]
    exact decide_eq_true (by rw [(by decide : (0#32).toInt = 0)]; omega)
  have s2 : v.sle 2047#32 = true := by
    rw [BitVec.sle_eq_decide, hv]
    exact decide_eq_true (by rw [(by decide : (2047#32).toInt = 2047)]; omega)
  have c0 : IntOp.cmpi .slt v 0#32 = 0#1 := by
    show (BitVec.ofBool (v.slt 0#32)) = _
    rw [s0]; rfl
  have c1 : IntOp.cmpi .sge v 0#32 = 1#1 := by
    show (BitVec.ofBool ((0#32).sle v)) = _
    rw [s1]; rfl
  have c2 : IntOp.cmpi .sle v 2047#32 = 1#1 := by
    show (BitVec.ofBool (v.sle 2047#32)) = _
    rw [s2]; rfl
  have f : ∀ a : BitVec 32, Scalar.select (IntOp.cmpi .slt v 0#32) a v = v := fun a => by
    rw [c0]; exact if_neg (by decide)
  rw [f]
  intro h2
  rw [c1, c2, Finset.univ_unique, Finset.fold_singleton]
  refine (if_pos (by decide)).trans (congrArg y (Fin.ext ?_))
  show min v.toInt.toNat 2047 = w.toNat + j.val
  rw [hv]
  omega

theorem clip_small (n : Fin 64) : (val_main_v39 (F := Ideal) x0 x2 x3 x5 x6 x7 x8 (ix1 n)).toNat ≤ 1791 := by
  pointwise [val_main_v39, val_main_call2_v4, val_main_call2_v3, val_main_call2_v2, val_main_call2_v1, val_main_call2_v0, val_main_c_6, val_main_c_7]
  exact Cert.KernelIdeal.Run.clip_le _

theorem clip_in (n : Fin 64) (j : Fin 257) : (val_main_v39 (F := Ideal) x0 x2 x3 x5 x6 x7 x8 (ix1 n)).toNat + j.val < 2048 :=
  have := clip_small x0 x2 x3 x5 x6 x7 x8 n
  have := j.isLt
  by omega

/-- Row `j` of the window of sequence `n`, as the reference picks it. -/
theorem win_eq (n : Fin 64) (j : Fin 257) (d : Fin 1024) :
    val_main_v47 (F := Ideal) x0 x1 x2 x3 x5 x6 x7 x8 (ix3 n j d)
      = x1 (ix3 ⟨(val_main_v39 (F := Ideal) x0 x2 x3 x5 x6 x7 x8 (ix1 n)).toNat + j.val, clip_in x0 x2 x3 x5 x6 x7 x8 n j⟩ n d) := by
  pointwise [val_main_v47, val_main_call3_v14, val_main_call3_v13, val_main_call3_v12, val_main_call3_v11, val_main_call3_v10, val_main_call3_v9, val_main_call3_v8, val_main_call3_v7,
    val_main_call3_v6, val_main_call3_v5, val_main_call3_v4, val_main_call3_v3, val_main_call3_v2, val_main_call3_v1, val_main_call3_v0, val_main_v46, val_main_v45, val_main_v44, val_main_v43, val_main_v42, val_main_v41, val_main_v40,
    val_main_call3_c, val_main_call3_c_0, val_main_call3_c_1, val_main_call3_c_2, val_main_call3_c_3, val_main_call3_cst, val_main_v9, gather_at]
  exact pick _ (clip_small x0 x2 x3 x5 x6 x7 x8 n) j (fun r => x1 (ix3 r n d)) _ (clip_in x0 x2 x3 x5 x6 x7 x8 n j)

end Cert.Equal
-- ==== Proof.Equal.Block.lean ====
module

public import proofs.«01_k».proof.Proof.Equal.Prep
public import proofs.«01_k».proof.Proof.KernelIdeal.Values

@[expose] public section

set_option maxRecDepth 16384

noncomputable section

namespace Cert.Equal

open Idealize.ShloMosaic Idealize.ShloMosaic.TcCoe Idealize.SL.Sem
open Cert.KernelIdeal Cert.KernelIdeal.Gen Cert.ReferenceIdeal.Read
open Cert.KernelIdeal.Run (uCol pCol lCol gaussB expB sumB scoresB cRow cB)

/-!
# One row of the scores

The scores of one sequence, as a function of its dot products, its positions, its length and its centre.
-/

/-- A dot product where the position is inside the sequence, a small constant elsewhere. -/
def maskR (D T : Fin 257 → EReal) (l : EReal) (q : Fin 257) : EReal :=
  Scalar.select (IntOp.andi (FloatOps.cmpf (F := Ideal) (φ := .f32) .oge (T q) (Ideal.ofBits .f32 0x43000000#32))
    (FloatOps.cmpf (F := Ideal) (φ := .f32) .olt (T q) (l + Ideal.ofBits .f32 0x43000000#32))) (D q) (Ideal.ofBits .f32 0x283424DC#32)
/-- The exponential of a value less the row's maximum. -/
def expR (S : Fin 257 → EReal) (q : Fin 257) : EReal := Ideal.exp (S q - Finset.univ.fold max (Ideal.ofBits .f32 0xFF800000#32) S)
/-- The Gaussian factor. -/
def gaussR (T : Fin 257 → EReal) (p : EReal) (q : Fin 257) : EReal :=
  Ideal.exp (Ideal.div (-((T q - p) * (T q - p))) (Ideal.ofBits .f32 0x46000000#32))
/-- The score. -/
def rowR (D T : Fin 257 → EReal) (p l : EReal) (q : Fin 257) : EReal :=
  Ideal.div (expR (maskR D T l) q) (∑ k, expR (maskR D T l) k) * gaussR T p q
/-- The positions of a window that starts at `s`. -/
def posR (s : BitVec 32) (q : Fin 257) : EReal := FloatOps.sitofp (F := Ideal) .f32 s + FloatOps.sitofp (F := Ideal) .f32 (BitVec.ofNat 32 q.val)

/-! ## The block of eight rows the second region computes -/

section Kernel
variable (x : Vec Ideal S8x1x1024 .f32) (w : ℕ → Vec Ideal S1x257x1x1024 .f32) (u : ℕ → BitVec 32) (p l : ℕ → EReal)

/-- The dot products of a row of the block with the rows of its window. -/
def dotR (r : Fin 8) (q : Fin 257) : EReal := ∑ d : Fin 1024, x (ix3 r (0 : Fin 1) d) * w r.val (ix4 (0 : Fin 1) q (0 : Fin 1) d)

theorem uCol_at (r : Fin 8) (q : Fin 257) : uCol (F := Ideal) u (ix2 r q) = FloatOps.sitofp .f32 (u r.val) := by
  pointwise [uCol, k1_pay13, k1_pay14, k1_pay15, k1_pay16, k1_pay17, k1_pay18, k1_pay19, k1_pay20]
  fin_vals r with hr
  all_goals simp only [hr, Nat.reduceSub, Nat.reduceLT, ↓reduceDIte, ↓reduceIte]
  all_goals rfl

theorem pCol_at (r : Fin 8) (q : Fin 257) : pCol (F := Ideal) p (ix2 r q) = p r.val := by
  pointwise [pCol, k1_pay21]
  fin_vals r with hr
  all_goals simp only [hr, Nat.reduceSub, Nat.reduceLT, ↓reduceDIte, ↓reduceIte]

theorem lCol_at (r : Fin 8) (q : Fin 257) : lCol (F := Ideal) l (ix2 r q) = l r.val := by
  pointwise [lCol, k1_pay22]
  fin_vals r with hr
  all_goals simp only [hr, Nat.reduceSub, Nat.reduceLT, ↓reduceDIte, ↓reduceIte]

theorem pos_at (r : Fin 8) (q : Fin 257) : k1_pay23 (F := Ideal) k1_pay12 (uCol u) (ix2 r q) = posR (u r.val) q := by
  pointwise [k1_pay23, k1_pay12, uCol_at]
  exact add_comm _ _

/-- The eight rows of dot products, as the kernel stacks them. -/
def dots : FVec Ideal S8x257 .f32 :=
  concatenate S8x257 0
    [⟨S1x257, matmul dot_S1x1024_S257x1024_S1x257_1_1_0_0_n_n none (shapeCast S1x1024 (extractStridedSlice S1x1x1024 ![0, 0, 0] (k1_pay3 x) slices_S8x1x1024_o0_0_0_S1x1x1024) shapeCasts_S1x1x1024_S1x1024) (k1_pay4 (w 0)) (constant S1x257 .f32 0x00000000#32)⟩,
     ⟨S1x257, matmul dot_S1x1024_S257x1024_S1x257_1_1_0_0_n_n none (shapeCast S1x1024 (extractStridedSlice S1x1x1024 ![1, 0, 0] (k1_pay3 x) slices_S8x1x1024_o1_0_0_S1x1x1024) shapeCasts_S1x1x1024_S1x1024) (k1_pay5 (w 1)) (constant S1x257 .f32 0x00000000#32)⟩,
     ⟨S1x257, matmul dot_S1x1024_S257x1024_S1x257_1_1_0_0_n_n none (shapeCast S1x1024 (extractStridedSlice S1x1x1024 ![2, 0, 0] (k1_pay3 x) slices_S8x1x1024_o2_0_0_S1x1x1024) shapeCasts_S1x1x1024_S1x1024) (k1_pay6 (w 2)) (constant S1x257 .f32 0x00000000#32)⟩,
     ⟨S1x257, matmul dot_S1x1024_S257x1024_S1x257_1_1_0_0_n_n none (shapeCast S1x1024 (extractStridedSlice S1x1x1024 ![3, 0, 0] (k1_pay3 x) slices_S8x1x1024_o3_0_0_S1x1x1024) shapeCasts_S1x1x1024_S1x1024) (k1_pay7 (w 3)) (constant S1x257 .f32 0x00000000#32)⟩,
     ⟨S1x257, matmul dot_S1x1024_S257x1024_S1x257_1_1_0_0_n_n none (shapeCast S1x1024 (extractStridedSlice S1x1x1024 ![4, 0, 0] (k1_pay3 x) slices_S8x1x1024_o4_0_0_S1x1x1024) shapeCasts_S1x1x1024_S1x1024) (k1_pay8 (w 4)) (constant S1x257 .f32 0x00000000#32)⟩,
     ⟨S1x257, matmul dot_S1x1024_S257x1024_S1x257_1_1_0_0_n_n none (shapeCast S1x1024 (extractStridedSlice S1x1x1024 ![5, 0, 0] (k1_pay3 x) slices_S8x1x1024_o5_0_0_S1x1x1024) shapeCasts_S1x1x1024_S1x1024) (k1_pay9 (w 5)) (constant S1x257 .f32 0x00000000#32)⟩,
     ⟨S1x257, matmul dot_S1x1024_S257x1024_S1x257_1_1_0_0_n_n none (shapeCast S1x1024 (extractStridedSlice S1x1x1024 ![6, 0, 0] (k1_pay3 x) slices_S8x1x1024_o6_0_0_S1x1x1024) shapeCasts_S1x1x1024_S1x1024) (k1_pay10 (w 6)) (constant S1x257 .f32 0x00000000#32)⟩,
     ⟨S1x257, matmul dot_S1x1024_S257x1024_S1x257_1_1_0_0_n_n none (shapeCast S1x1024 (extractStridedSlice S1x1x1024 ![7, 0, 0] (k1_pay3 x) slices_S8x1x1024_o7_0_0_S1x1x1024) shapeCasts_S1x1x1024_S1x1024) (k1_pay11 (w 7)) (constant S1x257 .f32 0x00000000#32)⟩]
    concatenates_S1x257_S1x257_S1x257_S1x257_S1x257_S1x257_S1x257_S1x257_S8x257_d0

theorem dots_at (r : Fin 8) (q : Fin 257) : dots x w (ix2 r q) = dotR x w r q := by
  have h : r = 0 ∨ r = 1 ∨ r = 2 ∨ r = 3 ∨ r = 4 ∨ r = 5 ∨ r = 6 ∨ r = 7 := by revert r; decide
  rcases h with rfl | rfl | rfl | rfl | rfl | rfl | rfl | rfl
  all_goals pointwise [dots, dotR, k1_pay3, k1_pay4, k1_pay5, k1_pay6, k1_pay7, k1_pay8, k1_pay9, k1_pay10, k1_pay11]

theorem gauss_at (r : Fin 8) (q : Fin 257) : gaussB (F := Ideal) u p (ix2 r q) = gaussR (posR (u r.val)) (p r.val) q := by
  pointwise [gaussB, k1_pay25, k1_pay24, pos_at, pCol_at]
  rw [sub_eq_add_neg 0, zero_add]
  rfl

/-- The masked dot products of the block. -/
def masked : FVec Ideal S8x257 .f32 :=
  select (andi (cmpf .oge (k1_pay23 (F := Ideal) k1_pay12 (uCol u)) (broadcast S8x257 (Scalar.ofBits .f32 0x43000000#32)))
    (cmpf .olt (k1_pay23 (F := Ideal) k1_pay12 (uCol u)) (addf (lCol (F := Ideal) l) (broadcast S8x257 (Scalar.ofBits .f32 0x43000000#32))))) (dots x w)
    (broadcast S8x257 (Scalar.ofBits .f32 0x283424DC#32))

theorem expB_unfold : expB (F := Ideal) x w u l
    = exp (subf (masked x w u l) (broadcastTo S8x257 (shapeCast S8x1 (multiReduction .maximumf [1] S8 (masked x w u l) 0xFF800000#32 reduces_S8x257_S8 (.inl rfl) rfl) shapeCasts_S8_S8x1) broadcasts_S8x1_S8x257)) := rfl

theorem masked_at (r : Fin 8) (q : Fin 257) : masked x w u l (ix2 r q) = maskR (dotR x w r) (posR (u r.val)) (l r.val) q := by
  pointwise [masked, pos_at, lCol_at, dots_at]
  rfl

theorem exp_at (r : Fin 8) (q : Fin 257) : expB (F := Ideal) x w u l (ix2 r q) = expR (maskR (dotR x w r) (posR (u r.val)) (l r.val)) q := by
  rw [expB_unfold]
  pointwise [masked_at]
  rfl

theorem sum_at (r : Fin 8) : sumB (F := Ideal) x w u l (ix2 r (0 : Fin 1)) = ∑ k, expR (maskR (dotR x w r) (posR (u r.val)) (l r.val)) k := by
  have e : sumB (F := Ideal) x w u l = shapeCast S8x1 (multiReduction .add [1] S8 (expB x w u l) 0x00000000#32 reduces_S8x257_S8 (.inl rfl) rfl) shapeCasts_S8_S8x1 := rfl
  rw [e]
  pointwise [exp_at]

theorem weight_at (r : Fin 8) (q : Fin 257) : k1_pay28 (F := Ideal) (gaussB u p) (expB x w u l) (sumB x w u l) (ix2 r q)
    = rowR (dotR x w r) (posR (u r.val)) (p r.val) (l r.val) q := by
  pointwise [k1_pay28, exp_at, sum_at, gauss_at]
  rfl

/-- The scores of the block. -/
theorem scoresB_at (r : Fin 8) (q : Fin 257) : scoresB (F := Ideal) x w u p l (ix3 r (0 : Fin 1) q)
    = rowR (dotR x w r) (posR (u r.val)) (p r.val) (l r.val) q := by
  pointwise [scoresB, k1_pay29, weight_at]

/-- The weighted sums of the block. -/
theorem cB_at (r : Fin 8) (d : Fin 1024) : cB (F := Ideal) x w u p l (ix3 r (0 : Fin 1) d)
    = ∑ q, rowR (dotR x w r) (posR (u r.val)) (p r.val) (l r.val) q * w r.val (ix4 (0 : Fin 1) q (0 : Fin 1) d) := by
  have h : r = 0 ∨ r = 1 ∨ r = 2 ∨ r = 3 ∨ r = 4 ∨ r = 5 ∨ r = 6 ∨ r = 7 := by revert r; decide
  show cRow (F := Ideal) x w u p l r (Fin.cons (0 : Fin 1) (fun a : Fin 2 => (ix3 r (0 : Fin 1) d : S8x1x1024.Idx) a.succ)) = _
  have e : (Fin.cons (0 : Fin 1) (fun a : Fin 2 => (ix3 r (0 : Fin 1) d : S8x1x1024.Idx) a.succ) : S1x1x1024.Idx) = ix3 (0 : Fin 1) (0 : Fin 1) d := by
    funext a
    match a with
    | ⟨0, _⟩ => rfl
    | ⟨1, _⟩ => rfl
    | ⟨2, _⟩ => rfl
  rw [e]
  rcases h with rfl | rfl | rfl | rfl | rfl | rfl | rfl | rfl
  · show k1_pay30 (F := Ideal) (k1_pay4 (w 0)) (gaussB u p) (expB x w u l) (sumB x w u l) _ = _
    pointwise [k1_pay30, weight_at, k1_pay4]
  · show k1_pay31 (F := Ideal) (k1_pay5 (w 1)) (gaussB u p) (expB x w u l) (sumB x w u l) _ = _
    pointwise [k1_pay31, weight_at, k1_pay5]
  · show k1_pay32 (F := Ideal) (k1_pay6 (w 2)) (gaussB u p) (expB x w u l) (sumB x w u l) _ = _
    pointwise [k1_pay32, weight_at, k1_pay6]
  · show k1_pay33 (F := Ideal) (k1_pay7 (w 3)) (gaussB u p) (expB x w u l) (sumB x w u l) _ = _
    pointwise [k1_pay33, weight_at, k1_pay7]
  · show k1_pay34 (F := Ideal) (k1_pay8 (w 4)) (gaussB u p) (expB x w u l) (sumB x w u l) _ = _
    pointwise [k1_pay34, weight_at, k1_pay8]
  · show k1_pay35 (F := Ideal) (k1_pay9 (w 5)) (gaussB u p) (expB x w u l) (sumB x w u l) _ = _
    pointwise [k1_pay35, weight_at, k1_pay9]
  · show k1_pay1 (F := Ideal) (k1_pay10 (w 6)) (k1_pay28 (gaussB u p) (expB x w u l) (sumB x w u l)) _ = _
    pointwise [k1_pay1, weight_at, k1_pay10]
  · show k1_pay2 (F := Ideal) (k1_pay11 (w 7)) (k1_pay28 (gaussB u p) (expB x w u l) (sumB x w u l)) _ = _
    pointwise [k1_pay2, weight_at, k1_pay11]
end Kernel

end Cert.Equal
-- ==== Proof.Equal.Scores.lean ====
module

public import proofs.«01_k».proof.Proof.Equal.Block

@[expose] public section

set_option maxRecDepth 16384

noncomputable section

namespace Cert.Equal

open Idealize.ShloMosaic Idealize.ShloMosaic.TcCoe Idealize.SL.Sem
open Cert.KernelIdeal Cert.KernelIdeal.Gen Cert.ReferenceIdeal.Read

variable (x0 : FVec Ideal S64x1024 .f32) (x1 : FVec Ideal S2048x64x1024 .f32) (x2 : IVec S2048x64 1) (x3 : FVec Ideal S1024x1024 .f32)
  (x4 : FVec Ideal S1024x2048 .f32) (x5 : FVec Ideal S512x1024 .f32) (x6 : FVec Ideal S512 .f32) (x7 : FVec Ideal S1x512 .f32) (x8 : FVec Ideal S1 .f32)

/-! # The reference's scores, contexts and output, one row at a time -/

/-- The dot products of a sequence with the rows of its window. -/
def dotS (n : Fin 64) (q : Fin 257) : EReal :=
  ∑ d : Fin 1024, val_main_v7 (F := Ideal) x0 x3 (ix2 n d) * val_main_v47 (F := Ideal) x0 x1 x2 x3 x5 x6 x7 x8 (ix3 n q d)

/-- The scores of a sequence. -/
def rowS (n : Fin 64) (q : Fin 257) : EReal :=
  rowR (dotS x0 x1 x2 x3 x5 x6 x7 x8 n) (posR (val_main_v35 (F := Ideal) x0 x2 x3 x5 x6 x7 x8 (ix2 n (0 : Fin 1))))
    (val_main_v30 (F := Ideal) x0 x2 x3 x5 x6 x7 x8 (ix2 n (0 : Fin 1))) (val_main_v5 (F := Ideal) x2 (ix2 n (0 : Fin 1))) q

theorem max_fold (b : EReal) (f : Fin 257 → EReal) : max b (Finset.univ.fold max b f) = Finset.univ.fold max b f :=
  max_eq_right (Finset.le_fold_max _ |>.2 (.inl le_rfl))

theorem ref_pos (n : Fin 64) (q : Fin 257) : val_main_v55 (F := Ideal) x0 x2 x3 x5 x6 x7 x8 (ix3 n (0 : Fin 1) q)
    = posR (val_main_v35 (F := Ideal) x0 x2 x3 x5 x6 x7 x8 (ix2 n (0 : Fin 1))) q := by
  pointwise [val_main_v55, val_main_v54, val_main_v53, val_main_v52, val_main_v51, val_main_v50, val_main_v49, val_main_v48, val_main_v38]
  rfl

theorem ref_dot (n : Fin 64) (q : Fin 257) : val_main_v63 (F := Ideal) x0 x1 x2 x3 x5 x6 x7 x8 (ix3 n (0 : Fin 1) q)
    = dotS x0 x1 x2 x3 x5 x6 x7 x8 n q := by
  pointwise [val_main_v63, val_main_v8, dotS]

theorem ref_mask (n : Fin 64) (q : Fin 257) : val_main_v72 (F := Ideal) x0 x1 x2 x3 x5 x6 x7 x8 (ix3 n (0 : Fin 1) q)
    = maskR (dotS x0 x1 x2 x3 x5 x6 x7 x8 n) (posR (val_main_v35 (F := Ideal) x0 x2 x3 x5 x6 x7 x8 (ix2 n (0 : Fin 1)))) (val_main_v5 (F := Ideal) x2 (ix2 n (0 : Fin 1))) q := by
  pointwise [val_main_v72, val_main_call4_v1, val_main_call4_v0, val_main_cst_11, val_main_v71, val_main_v70, val_main_v69, val_main_v68, val_main_v67, val_main_v66, val_main_v65, val_main_v64,
    val_main_cst_9, val_main_cst_10, ref_pos, ref_dot]
  rfl

theorem ref_gauss (n : Fin 64) (q : Fin 257) : val_main_v62 (F := Ideal) x0 x2 x3 x5 x6 x7 x8 (ix3 n (0 : Fin 1) q)
    = gaussR (posR (val_main_v35 (F := Ideal) x0 x2 x3 x5 x6 x7 x8 (ix2 n (0 : Fin 1)))) (val_main_v30 (F := Ideal) x0 x2 x3 x5 x6 x7 x8 (ix2 n (0 : Fin 1))) q := by
  pointwise [val_main_v62, val_main_v61, val_main_v60, val_main_v59, val_main_v58, val_main_v57, val_main_v56, val_main_v31, val_main_cst_8, ref_pos]
  rfl

theorem ref_exp (n : Fin 64) (q : Fin 257) : val_main_v79 (F := Ideal) x0 x1 x2 x3 x5 x6 x7 x8 (ix3 n (0 : Fin 1) q)
    = expR (maskR (dotS x0 x1 x2 x3 x5 x6 x7 x8 n) (posR (val_main_v35 (F := Ideal) x0 x2 x3 x5 x6 x7 x8 (ix2 n (0 : Fin 1)))) (val_main_v5 (F := Ideal) x2 (ix2 n (0 : Fin 1)))) q := by
  pointwise [val_main_v79, val_main_v78, val_main_v77, val_main_v76, val_main_v75, val_main_v74, val_main_v73, val_main_cst_13, val_main_cst_12, ref_mask]
  exact congrArg (fun t => Ideal.exp (_ - t)) (max_fold _ _)

/-- The reference's scores. -/
theorem ref_scores (n : Fin 64) (q : Fin 257) : val_main_v84 (F := Ideal) x0 x1 x2 x3 x5 x6 x7 x8 (ix3 n (0 : Fin 1) q) = rowS x0 x1 x2 x3 x5 x6 x7 x8 n q := by
  pointwise [val_main_v84, val_main_v83, val_main_v82, val_main_v81, val_main_v80, val_main_cst_14, ref_exp, ref_gauss]
  rfl

/-- The reference's contexts. -/
theorem ref_ctx (n : Fin 64) (d : Fin 1024) : val_main_v87 (F := Ideal) x0 x1 x2 x3 x5 x6 x7 x8 (ix2 n d)
    = ∑ q, rowS x0 x1 x2 x3 x5 x6 x7 x8 n q * val_main_v47 (F := Ideal) x0 x1 x2 x3 x5 x6 x7 x8 (ix3 n q d) := by
  pointwise [val_main_v87, val_main_v86, ref_scores]

/-- The last layer: one product over the joined columns is the two products added. -/
theorem out_eq : k2_pay1 (F := Ideal) x4 (val_main_v87 (F := Ideal) x0 x1 x2 x3 x5 x6 x7 x8) x0 = val_main_v91 (F := Ideal) x0 x1 x2 x3 x4 x5 x6 x7 x8 := by
  funext j
  idx_vars j
  pointwise [k2_pay1, val_main_v91, val_main_v90, val_main_v89, val_main_v88]

end Cert.Equal
-- ==== Proof.Equal.Results.lean ====
module

public import proofs.«01_k».proof.Proof.Equal.Window
public import proofs.«01_k».proof.Proof.Equal.Scores

@[expose] public section

set_option maxRecDepth 16384

noncomputable section

namespace Cert.Equal

open Idealize.ShloMosaic Idealize.ShloMosaic.TcCoe Idealize.ShloMosaic.Tactic Idealize.SL.Sem
open Cert.KernelIdeal Cert.KernelIdeal.Gen Cert.ReferenceIdeal.Read
open Cert.KernelIdeal.Run (outs xV wsV pV lenV weV csV outV scoresArr cArr slotV wstart widx ptOf inPt scoresV cV xBlk winV entV)

variable (m : (ℓ : Loc nD τ sig) → Buf (Elt Ideal) ℓ) (c : Dev nD)

/-! # The kernel's results are the reference's -/

abbrev A0 : FVec Ideal S64x1024 .f32 := m ((c : Thread nD τ).loc main_arg0)
abbrev A1 : FVec Ideal S2048x64x1024 .f32 := m ((c : Thread nD τ).loc main_arg1)
abbrev A2 : IVec S2048x64 1 := m ((c : Thread nD τ).loc main_arg2)
abbrev A3 : FVec Ideal S1024x1024 .f32 := m ((c : Thread nD τ).loc main_arg3)
abbrev A4 : FVec Ideal S1024x2048 .f32 := m ((c : Thread nD τ).loc main_arg4)
abbrev A5 : FVec Ideal S512x1024 .f32 := m ((c : Thread nD τ).loc main_arg5)
abbrev A6 : FVec Ideal S512 .f32 := m ((c : Thread nD τ).loc main_arg6)
abbrev A7 : FVec Ideal S1x512 .f32 := m ((c : Thread nD τ).loc main_arg7)
abbrev A8 : FVec Ideal S1 .f32 := m ((c : Thread nD τ).loc main_arg8)

/-! ## What the host hands to the first region -/

theorem V1_mask : V1 m c main_call0_v2 = maskT (A2 m c) := by
  show StableHlo.after hostOps0 (V0 m c) (Proc.devRef .tc main_call0_v2) = _
  have e : V0 m c (Proc.devRef .tc main_arg2) = A2 m c := rfl
  rw [← e]
  generalize V0 m c = V
  after_results; rfl
theorem V1_bias : V1 m c main_call0_v7 = shapeCast S1x512 (A6 m c) shapeCasts_S512_S1x512 := by
  show StableHlo.after hostOps0 (V0 m c) (Proc.devRef .tc main_call0_v7) = _
  have e : V0 m c (Proc.devRef .tc main_arg6) = A6 m c := rfl
  rw [← e]
  generalize V0 m c = V
  after_results; rfl
theorem V1_pad : V1 m c main_call0_v6 = padW (A7 m c) := by
  show StableHlo.after hostOps0 (V0 m c) (Proc.devRef .tc main_call0_v6) = _
  have e : V0 m c (Proc.devRef .tc main_arg7) = A7 m c := rfl
  rw [← e]
  generalize V0 m c = V
  after_results
  unfold padW
  generalize Host.scatter scatter_S128x512_S1_S512_0_0_0_0 (fun _ b => b) = S
  rfl
theorem V1_arg (r : Ref sig .tc) (h : r ∉ hostOps0_W) : V1 m c r = m ((c : Thread nD τ).loc r) := V1_of m c r h

theorem s1zero_eq : Cert.KernelIdeal.Run.s1zero = ix1 (0 : Fin 1) := by
  funext a
  match a with
  | ⟨0, _⟩ => exact Subsingleton.elim (α := Fin 1) _ _

/-! ## The first region -/

theorem wsV_eq : wsV (V1 m) c = val_main_v35 (F := Ideal) (A0 m c) (A2 m c) (A3 m c) (A5 m c) (A6 m c) (A7 m c) (A8 m c) := by
  unfold wsV
  rw [V1_mask, V1_bias, V1_pad, V1_arg m c main_arg0 (by decide), V1_arg m c main_arg3 (by decide), V1_arg m c main_arg5 (by decide), V1_arg m c main_arg8 (by decide), s1zero_eq]
  exact ws_eq (A0 m c) (A2 m c) (A3 m c) (A5 m c) (A6 m c) (A7 m c) (A8 m c)
theorem pV_eq : pV (V1 m) c = val_main_v30 (F := Ideal) (A0 m c) (A2 m c) (A3 m c) (A5 m c) (A6 m c) (A7 m c) (A8 m c) := by
  unfold pV
  rw [V1_mask, V1_bias, V1_pad, V1_arg m c main_arg0 (by decide), V1_arg m c main_arg3 (by decide), V1_arg m c main_arg5 (by decide), V1_arg m c main_arg8 (by decide), s1zero_eq]
  exact p_eq (A0 m c) (A2 m c) (A3 m c) (A5 m c) (A6 m c) (A7 m c) (A8 m c)
theorem lenV_eq : lenV (V1 m) c = val_main_v5 (F := Ideal) (A2 m c) := by
  unfold lenV
  rw [V1_mask]
  exact len_eq (A2 m c)
theorem xV_eq : xV (V1 m) c = val_main_v7 (F := Ideal) (A0 m c) (A3 m c) := by
  unfold xV
  rw [V1_arg m c main_arg0 (by decide), V1_arg m c main_arg3 (by decide)]
  exact x_eq (A0 m c) (A3 m c)
theorem weV_eq : weV (V1 m) c = val_main_v37 (F := Ideal) (A0 m c) (A2 m c) (A3 m c) (A5 m c) (A6 m c) (A7 m c) (A8 m c) := by
  unfold weV
  rw [wsV_eq]
  rfl
theorem cs_table : V3 m (outs m) c main_call0_v9 = val_main_v39 (F := Ideal) (A0 m c) (A2 m c) (A3 m c) (A5 m c) (A6 m c) (A7 m c) (A8 m c) := by
  rw [Cert.KernelIdeal.Run.V3_cs]
  unfold csV
  rw [wsV_eq]
  exact cs_eq (A0 m c) (A2 m c) (A3 m c) (A5 m c) (A6 m c) (A7 m c) (A8 m c)

/-! ## The second region -/

/-- A row of a window, as a slot of the ring holds it. -/
theorem slot_at (cs : S64.Idx → BitVec 32) (V : FVec Ideal S2048x64x1024 .f32) (n : Fin 64) (q : Fin 257) (d : Fin 1024)
    (h : (cs (ix1 n)).toNat + q.val < 2048) (h' : (cs (ix1 n)).toNat ≤ 1791) :
    slotV (F := Ideal) c cs V n.val (ix4 (0 : Fin 1) q (0 : Fin 1) d) = V (ix3 ⟨(cs (ix1 n)).toNat + q.val, h⟩ n d) := by
  have ew : widx n.val = ix1 n := by
    funext a
    match a with
    | ⟨0, _⟩ => exact Fin.ext (Nat.mod_eq_of_lt n.isLt)
  have es : wstart cs n.val = (cs (ix1 n)).toNat := by
    show min (cs (widx n.val)).toNat 1791 = _
    rw [ew]
    exact Nat.min_eq_left h'
  unfold slotV
  pointwise
  refine congrArg V (funext fun a => Fin.ext ?_)
  match a with
  | ⟨0, _⟩ => exact (by omega : wstart cs n.val + 1 * q.val = (cs (ix1 n)).toNat + q.val)
  | ⟨1, _⟩ => exact (by omega : n.val % 64 + 1 * 0 = n.val)
  | ⟨2, _⟩ => exact (by omega : 0 + 1 * d.val = d.val)

/-- The place of a sequence among the rows of all the points. -/
theorem row_place (n : Fin 64) : 8 * (ptOf n).val + (inPt n).val = n.val := Nat.div_add_mod n.val 8

/-- The entry of a table that a row's point reads. -/
theorem ent_at {e : EltTy} (f : S64.Idx → Elt Ideal e) (n : Fin 64) : entV f (ptOf n).val (inPt n).val = f (ix1 n) := by
  show f (widx (8 * (ptOf n).val + (inPt n).val)) = _
  rw [row_place]
  refine congrArg f (funext fun a => ?_)
  match a with
  | ⟨0, _⟩ => exact Fin.ext (Nat.mod_eq_of_lt n.isLt)

theorem V3_windows : V3 m (outs m) c main_arg1 = A1 m c := by
  rw [V3_of m (outs m) c main_arg1 (by decide), V2_of m (outs m) c main_arg1 (by decide), V1_arg m c main_arg1 (by decide)]

/-- The window a row's point reads is the reference's. -/
theorem window_eq (n : Fin 64) (q : Fin 257) (d : Fin 1024) :
    winV (V3 m (outs m)) c (ptOf n).val (inPt n).val (ix4 (0 : Fin 1) q (0 : Fin 1) d) = val_main_v47 (F := Ideal) (A0 m c) (A1 m c) (A2 m c) (A3 m c) (A5 m c) (A6 m c) (A7 m c) (A8 m c) (ix3 n q d) := by
  show slotV c (V3 m (outs m) c main_call0_v9) (V3 m (outs m) c main_arg1) (8 * (ptOf n).val + (inPt n).val) _ = _
  rw [row_place, cs_table, V3_windows, win_eq]
  exact slot_at c _ (A1 m c) n q d (clip_in (A0 m c) (A2 m c) (A3 m c) (A5 m c) (A6 m c) (A7 m c) (A8 m c) n q) (clip_small (A0 m c) (A2 m c) (A3 m c) (A5 m c) (A6 m c) (A7 m c) (A8 m c) n)

theorem mix_eq (n : Fin 64) (d : Fin 1024) : xBlk (V3 m (outs m)) c (ptOf n) (ix3 (inPt n) (0 : Fin 1) d) = val_main_v7 (F := Ideal) (A0 m c) (A3 m c) (ix2 n d) := by
  refine (Cert.KernelIdeal.Run.xBlk_row (V3 m (outs m)) c n d).trans ?_
  rw [Cert.KernelIdeal.Run.V3_x, xV_eq]
  generalize val_main_v7 (F := Ideal) (A0 m c) (A3 m c) = x
  pointwise
  rfl

/-- A column read as a list. -/
theorem column_at {α : Type} (f : S64x1.Idx → α) (n : Fin 64) : shapeCast S64 f shapeCasts_S64x1_S64 (ix1 n) = f (ix2 n (0 : Fin 1)) := by
  pointwise

theorem entry_ws (n : Fin 64) : entV (V3 m (outs m) c main_call0_v10) (ptOf n).val (inPt n).val = val_main_v35 (F := Ideal) (A0 m c) (A2 m c) (A3 m c) (A5 m c) (A6 m c) (A7 m c) (A8 m c) (ix2 n (0 : Fin 1)) := by
  refine (ent_at _ n).trans ?_
  rw [Cert.KernelIdeal.Run.V3_ws, wsV_eq]
  exact column_at _ n
theorem entry_p (n : Fin 64) : entV (V3 m (outs m) c main_call0_v11) (ptOf n).val (inPt n).val = val_main_v30 (F := Ideal) (A0 m c) (A2 m c) (A3 m c) (A5 m c) (A6 m c) (A7 m c) (A8 m c) (ix2 n (0 : Fin 1)) := by
  refine (ent_at _ n).trans ?_
  rw [Cert.KernelIdeal.Run.V3_p, pV_eq]
  exact column_at _ n
theorem entry_len (n : Fin 64) : entV (V3 m (outs m) c main_call0_v12) (ptOf n).val (inPt n).val = val_main_v5 (F := Ideal) (A2 m c) (ix2 n (0 : Fin 1)) := by
  refine (ent_at _ n).trans ?_
  rw [Cert.KernelIdeal.Run.V3_len, lenV_eq]
  exact column_at _ n

/-- The products of a row. -/
theorem dot_eq (n : Fin 64) : dotR (xBlk (V3 m (outs m)) c (ptOf n)) (winV (V3 m (outs m)) c (ptOf n).val) (inPt n) = dotS (A0 m c) (A1 m c) (A2 m c) (A3 m c) (A5 m c) (A6 m c) (A7 m c) (A8 m c) n :=
  funext fun q => Finset.sum_congr rfl fun d _ => congrArg₂ (· * ·) (mix_eq m c n d) (window_eq m c n q d)

/-- The scores of a row. -/
theorem row_eq (n : Fin 64) (q : Fin 257) :
    rowR (dotR (xBlk (V3 m (outs m)) c (ptOf n)) (winV (V3 m (outs m)) c (ptOf n).val) (inPt n)) (posR (entV (V3 m (outs m) c main_call0_v10) (ptOf n).val (inPt n).val))
      (entV (V3 m (outs m) c main_call0_v11) (ptOf n).val (inPt n).val) (entV (V3 m (outs m) c main_call0_v12) (ptOf n).val (inPt n).val) q = rowS (A0 m c) (A1 m c) (A2 m c) (A3 m c) (A5 m c) (A6 m c) (A7 m c) (A8 m c) n q := by
  rw [dot_eq, entry_ws, entry_p, entry_len]
  rfl

theorem scores_row (n : Fin 64) (q : Fin 257) : scoresArr (V3 m (outs m)) c (ix3 n (0 : Fin 1) q) = rowS (A0 m c) (A1 m c) (A2 m c) (A3 m c) (A5 m c) (A6 m c) (A7 m c) (A8 m c) n q :=
  (scoresB_at _ _ _ _ _ (inPt n) q).trans (row_eq m c n q)

theorem same_index {k l : ℕ} (a : Fin k) (b : Fin 1) (d : Fin l) : Cert.KernelIdeal.Run.ix3 a b d = ix3 a b d := by
  funext z
  match z with
  | ⟨0, _⟩ => rfl
  | ⟨1, _⟩ => rfl
  | ⟨2, _⟩ => rfl

theorem ctx_row (n : Fin 64) (d : Fin 1024) : cArr (V3 m (outs m)) c (ix3 n (0 : Fin 1) d) = val_main_v87 (F := Ideal) (A0 m c) (A1 m c) (A2 m c) (A3 m c) (A5 m c) (A6 m c) (A7 m c) (A8 m c) (ix2 n d) := by
  have e := cB_at (xBlk (V3 m (outs m)) c (ptOf n)) (winV (V3 m (outs m)) c (ptOf n).val) (entV (V3 m (outs m) c main_call0_v10) (ptOf n).val)
    (entV (V3 m (outs m) c main_call0_v11) (ptOf n).val) (entV (V3 m (outs m) c main_call0_v12) (ptOf n).val) (inPt n) d
  have e0 : cArr (V3 m (outs m)) c (ix3 n (0 : Fin 1) d) = cV (V3 m (outs m)) c (ptOf n) (ix3 (inPt n) (0 : Fin 1) d) :=
    congrArg (cV (V3 m (outs m)) c (ptOf n)) (same_index (inPt n) (0 : Fin 1) d)
  refine e0.trans ?_
  unfold cV
  refine Eq.trans e (Eq.trans ?_ (ref_ctx (A0 m c) (A1 m c) (A2 m c) (A3 m c) (A5 m c) (A6 m c) (A7 m c) (A8 m c) n d).symm)
  exact Finset.sum_congr rfl fun q _ => congrArg₂ (· * ·) (row_eq m c n q) (window_eq m c n q d)

/-- The scores of all the sequences. -/
theorem scores_eq : shapeCast S64x257 (scoresArr (V3 m (outs m)) c) shapeCasts_S64x1x257_S64x257 = val_main_v85 (F := Ideal) (A0 m c) (A1 m c) (A2 m c) (A3 m c) (A5 m c) (A6 m c) (A7 m c) (A8 m c) := by
  funext j
  idx_vars j
  pointwise [val_main_v85]
  exact (scores_row m c _ _).trans (ref_scores (A0 m c) (A1 m c) (A2 m c) (A3 m c) (A5 m c) (A6 m c) (A7 m c) (A8 m c) _ _).symm

/-- The contexts of all the sequences. -/
theorem ctx_eq : V5 m (outs m) c main_call0_v16 = val_main_v87 (F := Ideal) (A0 m c) (A1 m c) (A2 m c) (A3 m c) (A5 m c) (A6 m c) (A7 m c) (A8 m c) := by
  rw [Cert.KernelIdeal.Run.V5_c]
  have h := ctx_row m c
  generalize cArr (V3 m (outs m)) c = C at h ⊢
  generalize val_main_v87 (F := Ideal) (A0 m c) (A1 m c) (A2 m c) (A3 m c) (A5 m c) (A6 m c) (A7 m c) (A8 m c) = D at h ⊢
  funext j
  idx_vars j
  pointwise
  exact h _ _

/-! ## The third region -/

theorem V5_arg0 : V5 m (outs m) c main_arg0 = A0 m c := by
  rw [V5_of m (outs m) c main_arg0 (by decide), V4_of m (outs m) c main_arg0 (by decide), V3_of m (outs m) c main_arg0 (by decide), V2_of m (outs m) c main_arg0 (by decide), V1_arg m c main_arg0 (by decide)]
theorem V5_arg4 : V5 m (outs m) c main_arg4 = A4 m c := by
  rw [V5_of m (outs m) c main_arg4 (by decide), V4_of m (outs m) c main_arg4 (by decide), V3_of m (outs m) c main_arg4 (by decide), V2_of m (outs m) c main_arg4 (by decide), V1_arg m c main_arg4 (by decide)]

/-- The last result. -/
theorem outV_eq : outV (V5 m (outs m)) c = val_main_v91 (F := Ideal) (A0 m c) (A1 m c) (A2 m c) (A3 m c) (A4 m c) (A5 m c) (A6 m c) (A7 m c) (A8 m c) := by
  unfold outV
  rw [ctx_eq, V5_arg0, V5_arg4]
  exact out_eq (A0 m c) (A1 m c) (A2 m c) (A3 m c) (A4 m c) (A5 m c) (A6 m c) (A7 m c) (A8 m c)

/-! ## Equal arguments give equal results -/

theorem cong91 {x0 y0 : FVec Ideal S64x1024 .f32} {x1 y1 : FVec Ideal S2048x64x1024 .f32} {x2 y2 : IVec S2048x64 1} {x3 y3 : FVec Ideal S1024x1024 .f32} {x4 y4 : FVec Ideal S1024x2048 .f32} {x5 y5 : FVec Ideal S512x1024 .f32} {x6 y6 : FVec Ideal S512 .f32} {x7 y7 : FVec Ideal S1x512 .f32} {x8 y8 : FVec Ideal S1 .f32}
    (h0 : x0 = y0) (h1 : x1 = y1) (h2 : x2 = y2) (h3 : x3 = y3) (h4 : x4 = y4) (h5 : x5 = y5) (h6 : x6 = y6) (h7 : x7 = y7) (h8 : x8 = y8) :
    val_main_v91 (F := Ideal) x0 x1 x2 x3 x4 x5 x6 x7 x8 = val_main_v91 (F := Ideal) y0 y1 y2 y3 y4 y5 y6 y7 y8 := by
  subst h0 h1 h2 h3 h4 h5 h6 h7 h8
  rfl

theorem cong85 {x0 y0 : FVec Ideal S64x1024 .f32} {x1 y1 : FVec Ideal S2048x64x1024 .f32} {x2 y2 : IVec S2048x64 1} {x3 y3 : FVec Ideal S1024x1024 .f32} {x5 y5 : FVec Ideal S512x1024 .f32} {x6 y6 : FVec Ideal S512 .f32} {x7 y7 : FVec Ideal S1x512 .f32} {x8 y8 : FVec Ideal S1 .f32}
    (h0 : x0 = y0) (h1 : x1 = y1) (h2 : x2 = y2) (h3 : x3 = y3) (h5 : x5 = y5) (h6 : x6 = y6) (h7 : x7 = y7) (h8 : x8 = y8) :
    val_main_v85 (F := Ideal) x0 x1 x2 x3 x5 x6 x7 x8 = val_main_v85 (F := Ideal) y0 y1 y2 y3 y5 y6 y7 y8 := by
  subst h0 h1 h2 h3 h5 h6 h7 h8
  rfl

theorem cong35 {x0 y0 : FVec Ideal S64x1024 .f32} {x2 y2 : IVec S2048x64 1} {x3 y3 : FVec Ideal S1024x1024 .f32} {x5 y5 : FVec Ideal S512x1024 .f32} {x6 y6 : FVec Ideal S512 .f32} {x7 y7 : FVec Ideal S1x512 .f32} {x8 y8 : FVec Ideal S1 .f32}
    (h0 : x0 = y0) (h2 : x2 = y2) (h3 : x3 = y3) (h5 : x5 = y5) (h6 : x6 = y6) (h7 : x7 = y7) (h8 : x8 = y8) :
    val_main_v35 (F := Ideal) x0 x2 x3 x5 x6 x7 x8 = val_main_v35 (F := Ideal) y0 y2 y3 y5 y6 y7 y8 := by
  subst h0 h2 h3 h5 h6 h7 h8
  rfl

theorem cong37 {x0 y0 : FVec Ideal S64x1024 .f32} {x2 y2 : IVec S2048x64 1} {x3 y3 : FVec Ideal S1024x1024 .f32} {x5 y5 : FVec Ideal S512x1024 .f32} {x6 y6 : FVec Ideal S512 .f32} {x7 y7 : FVec Ideal S1x512 .f32} {x8 y8 : FVec Ideal S1 .f32}
    (h0 : x0 = y0) (h2 : x2 = y2) (h3 : x3 = y3) (h5 : x5 = y5) (h6 : x6 = y6) (h7 : x7 = y7) (h8 : x8 = y8) :
    val_main_v37 (F := Ideal) x0 x2 x3 x5 x6 x7 x8 = val_main_v37 (F := Ideal) y0 y2 y3 y5 y6 y7 y8 := by
  subst h0 h2 h3 h5 h6 h7 h8
  rfl

end Cert.Equal
-- ==== Proof.lean ====
/-
  The claims, assembled: the frames of the three programs from their runs (Proof/Kernel/, Proof/KernelIdeal/ and the
  reference's generated run), and the equality of the results (Proof/Equal/).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Launched
public import proofs.«01_k».proof.Proof.KernelIdeal.Launched
public import proofs.«01_k».proof.Proof.Equal.Results
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_P : Cert.quiescent_Kernel := fun m g _ =>
  (θ_run _ _ _).mono (fun _ h => ⟨h.1.args m, h.2⟩) (Cert.Kernel.Run.run (F := Bits) m g)

theorem frame_PI : Cert.quiescent_KernelIdeal := fun m g _ =>
  (θ_run _ _ _).mono (fun _ h => ⟨h.1.args m, h.2⟩) (Cert.KernelIdeal.Run.run (F := Ideal) m g)

theorem frame_RI : Cert.quiescent_ReferenceIdeal := fun m g _ =>
  (θ_run _ _ _).mono (fun _ h => ⟨fun c => (h c).2.2.2.2, sem_eq_zero_of_no_sems (by decide) _⟩) (Cert.ReferenceIdeal.Value.run m g)

/-- From equal arguments, the reference's four results are the kernel's. -/
theorem agree : Cert.algebraic_KernelIdeal_ReferenceIdeal := fun m g m' g' _ hagree => by
  refine ⟨fun c => Cert.KernelIdeal.Run.outV (Cert.KernelIdeal.Gen.V5 m (Cert.KernelIdeal.Run.outs m)) c,
    fun c => shapeCast Cert.KernelIdeal.S64x257 (Cert.KernelIdeal.Run.scoresArr (Cert.KernelIdeal.Gen.V3 m (Cert.KernelIdeal.Run.outs m)) c) Cert.KernelIdeal.Gen.shapeCasts_S64x1x257_S64x257,
    fun c => Cert.KernelIdeal.Run.wsV (Cert.KernelIdeal.Gen.V1 m) c, fun c => Cert.KernelIdeal.Run.weV (Cert.KernelIdeal.Gen.V1 m) c, ?_, ?_⟩
  · refine (θ_run _ _ _).mono (fun _ h c => ?_) (Cert.KernelIdeal.Run.run (F := Ideal) m g)
    obtain ⟨h0, h1, h2, h3⟩ := h.1.results m c
    exact ⟨h0, h1, h2, h3, h.1.args m c⟩
  · refine (θ_run _ _ _).mono (fun _ h c => ?_) (Cert.ReferenceIdeal.Value.run m' g')
    obtain ⟨a0, a1, a2, a3, a4, a5, a6, a7, a8⟩ := hagree c
    obtain ⟨h0, h1, h2, h3, hargs⟩ := h c
    refine ⟨(h0.trans (Cert.ReferenceIdeal.Read.val_main_v91_eq _)).trans (Eq.trans ?_ (Cert.Equal.outV_eq m c).symm),
      (h1.trans (Cert.ReferenceIdeal.Read.val_main_v85_eq _)).trans (Eq.trans ?_ (Cert.Equal.scores_eq m c).symm),
      (h2.trans (Cert.ReferenceIdeal.Read.val_main_v35_eq _)).trans (Eq.trans ?_ (Cert.Equal.wsV_eq m c).symm),
      (h3.trans (Cert.ReferenceIdeal.Read.val_main_v37_eq _)).trans (Eq.trans ?_ (Cert.Equal.weV_eq m c).symm), hargs⟩
    · exact Cert.Equal.cong91 a0 a1 a2 a3 a4 a5 a6 a7 a8
    · exact Cert.Equal.cong85 a0 a1 a2 a3 a5 a6 a7 a8
    · exact Cert.Equal.cong35 a0 a2 a3 a5 a6 a7 a8
    · exact Cert.Equal.cong37 a0 a2 a3 a5 a6 a7 a8

theorem claim : Cert.Claim := ⟨Cert.Kernel.Gen.facts, Cert.KernelIdeal.Gen.facts, Cert.ReferenceIdeal.Gen.facts,
  frame_P, frame_PI, frame_RI, trivial, agree⟩

end Cert.Proof

end
